-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v260) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x4096x7168 : Shape := ⟨3, ![3, 4096, 7168]⟩
abbrev S3x4096x28 : Shape := ⟨3, ![3, 4096, 28]⟩
abbrev S18432x28x32 : Shape := ⟨3, ![18432, 28, 32]⟩
abbrev S18432x28x64 : Shape := ⟨3, ![18432, 28, 64]⟩
abbrev S18432x28x12 : Shape := ⟨3, ![18432, 28, 12]⟩
abbrev S18432x28 : Shape := ⟨2, ![18432, 28]⟩
abbrev S12288x7168 : Shape := ⟨2, ![12288, 7168]⟩
abbrev S3x28x4096 : Shape := ⟨3, ![3, 28, 4096]⟩
abbrev S28x64x18432 : Shape := ⟨3, ![28, 64, 18432]⟩
abbrev S28x32x18432 : Shape := ⟨3, ![28, 32, 18432]⟩
abbrev S12x28x18432 : Shape := ⟨3, ![12, 28, 18432]⟩
abbrev S28x18432 : Shape := ⟨2, ![28, 18432]⟩
abbrev S12288x18432 : Shape := ⟨2, ![12288, 18432]⟩
abbrev S512x7168 : Shape := ⟨2, ![512, 7168]⟩
abbrev S1x28x512 : Shape := ⟨3, ![1, 28, 512]⟩
abbrev S28x64x1024 : Shape := ⟨3, ![28, 64, 1024]⟩
abbrev S28x32x1024 : Shape := ⟨3, ![28, 32, 1024]⟩
abbrev S12x28x1024 : Shape := ⟨3, ![12, 28, 1024]⟩
abbrev S28x1024 : Shape := ⟨2, ![28, 1024]⟩
abbrev S512x1024 : Shape := ⟨2, ![512, 1024]⟩
abbrev S16x28x1024 : Shape := ⟨3, ![16, 28, 1024]⟩
abbrev S7168x1024 : Shape := ⟨2, ![7168, 1024]⟩
abbrev S1x28x1024 : Shape := ⟨3, ![1, 28, 1024]⟩
abbrev S1x32x1024 : Shape := ⟨3, ![1, 32, 1024]⟩
abbrev S32x1024 : Shape := ⟨2, ![32, 1024]⟩
abbrev S8x1024 : Shape := ⟨2, ![8, 1024]⟩
abbrev S1x1x1024 : Shape := ⟨3, ![1, 1, 1024]⟩
abbrev S1x1024 : Shape := ⟨2, ![1, 1024]⟩
abbrev S16x1024 : Shape := ⟨2, ![16, 1024]⟩
abbrev S28x512 : Shape := ⟨2, ![28, 512]⟩
abbrev S100x512 : Shape := ⟨2, ![100, 512]⟩
abbrev S128x512 : Shape := ⟨2, ![128, 512]⟩
abbrev S512x128 : Shape := ⟨2, ![512, 128]⟩
abbrev S512x256 : Shape := ⟨2, ![512, 256]⟩
abbrev S512x1 : Shape := ⟨2, ![512, 1]⟩

abbrev nBuf : Space → Nat
  | .hbm => 13
  | .vmem => 17
  | .smem => 0
  | _ => 0

abbrev bufTy : (tb : Table) → Fin (tcTables nBuf tb) → BufTy
  | .hbm, ⟨0, _⟩ => ⟨S3x4096x7168, .i8⟩
  | .hbm, ⟨1, _⟩ => ⟨S3x4096x28, .f32⟩
  | .hbm, ⟨2, _⟩ => ⟨S18432x28x32, .i8⟩
  | .hbm, ⟨3, _⟩ => ⟨S18432x28x64, .i8⟩
  | .hbm, ⟨4, _⟩ => ⟨S18432x28x12, .i8⟩
  | .hbm, ⟨5, _⟩ => ⟨S18432x28, .f16⟩
  | .hbm, ⟨6, _⟩ => ⟨S12288x7168, .i8⟩
  | .hbm, ⟨7, _⟩ => ⟨S3x28x4096, .f32⟩
  | .hbm, ⟨8, _⟩ => ⟨S28x64x18432, .i8⟩
  | .hbm, ⟨9, _⟩ => ⟨S28x32x18432, .i8⟩
  | .hbm, ⟨10, _⟩ => ⟨S12x28x18432, .i8⟩
  | .hbm, ⟨11, _⟩ => ⟨S28x18432, .f16⟩
  | .hbm, ⟨12, _⟩ => ⟨S12288x18432, .bf16⟩
  | .local _ .vmem, ⟨0, _⟩ => ⟨S512x7168, .i8⟩
  | .local _ .vmem, ⟨1, _⟩ => ⟨S512x7168, .i8⟩
  | .local _ .vmem, ⟨2, _⟩ => ⟨S1x28x512, .f32⟩
  | .local _ .vmem, ⟨3, _⟩ => ⟨S1x28x512, .f32⟩
  | .local _ .vmem, ⟨4, _⟩ => ⟨S28x64x1024, .i8⟩
  | .local _ .vmem, ⟨5, _⟩ => ⟨S28x64x1024, .i8⟩
  | .local _ .vmem, ⟨6, _⟩ => ⟨S28x32x1024, .i8⟩
  | .local _ .vmem, ⟨7, _⟩ => ⟨S28x32x1024, .i8⟩
  | .local _ .vmem, ⟨8, _⟩ => ⟨S12x28x1024, .i8⟩
  | .local _ .vmem, ⟨9, _⟩ => ⟨S12x28x1024, .i8⟩
  | .local _ .vmem, ⟨10, _⟩ => ⟨S28x1024, .f16⟩
  | .local _ .vmem, ⟨11, _⟩ => ⟨S28x1024, .f16⟩
  | .local _ .vmem, ⟨12, _⟩ => ⟨S512x1024, .bf16⟩
  | .local _ .vmem, ⟨13, _⟩ => ⟨S512x1024, .bf16⟩
  | .local _ .vmem, ⟨14, _⟩ => ⟨S16x28x1024, .f32⟩
  | .local _ .vmem, ⟨15, _⟩ => ⟨S7168x1024, .bf16⟩
  | .local _ .vmem, ⟨16, _⟩ => ⟨S512x7168, .bf16⟩
  | _, _ => ⟨S3x4096x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![18, 24], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_300 : BitVec 32 := 0#32
  let c28_i32 : BitVec 32 := 28#32
  let v621 : BitVec 32 := Scalar.addi c0_i32_300 c28_i32
  let c1_i32 : BitVec 32 := 1#32
  ⟨c0_i32_300, v621, c1_i32⟩
def k0_off1 (k0_t1 : Fin k0_t1_loop.trips) : Fin 3 → Nat :=
  let c0_i32_300 : BitVec 32 := 0#32
  let c1_i32 : BitVec 32 := 1#32
  let arg12 : BitVec 32 := Scf.iv c0_i32_300 c1_i32 k0_t1
  let v622 : Index := Scalar.indexCast arg12
  let c0_302 : Index := 0#32
  let c0_303 : Index := 0#32
  ![v622.toNat, 0, 0]
def k0_off2 (k0_t1 : Fin k0_t1_loop.trips) : Fin 3 → Nat :=
  let c0_i32_300 : BitVec 32 := 0#32
  let c1_i32 : BitVec 32 := 1#32
  let arg12 : BitVec 32 := Scf.iv c0_i32_300 c1_i32 k0_t1
  let v626 : Index := Scalar.indexCast arg12
  let c0_304 : Index := 0#32
  let c0_305 : Index := 0#32
  ![v626.toNat, 0, 0]
def k0_off3 (k0_t1 : Fin k0_t1_loop.trips) : Fin 3 → Nat :=
  let c0_310 : Index := 0#32
  let c0_i32_300 : BitVec 32 := 0#32
  let c1_i32 : BitVec 32 := 1#32
  let arg12 : BitVec 32 := Scf.iv c0_i32_300 c1_i32 k0_t1
  let v645 : Index := Scalar.indexCast arg12
  let c0_311 : Index := 0#32
  ![0, v645.toNat, 0]
def k0_off4 (k0_t1 : Fin k0_t1_loop.trips) (c0_i32_312 : BitVec 32) : Fin 2 → Nat :=
  let c0_i32_300 : BitVec 32 := 0#32
  let c1_i32 : BitVec 32 := 1#32
  let arg12 : BitVec 32 := Scf.iv c0_i32_300 c1_i32 k0_t1
  let c256_i32 : BitVec 32 := 256#32
  let v652 : BitVec 32 := Scalar.muli arg12 c256_i32
  let v653 : BitVec 32 := Scalar.addi v652 c0_i32_312
  let v654 : Index := Scalar.indexCast v653
  let c0_313 : Index := 0#32
  ![v654.toNat, 0]
def k0_off5 (k0_t1 : Fin k0_t1_loop.trips) : Fin 3 → Nat :=
  let c1_314 : Index := 1#32
  let c0_i32_300 : BitVec 32 := 0#32
  let c1_i32 : BitVec 32 := 1#32
  let arg12 : BitVec 32 := Scf.iv c0_i32_300 c1_i32 k0_t1
  let v658 : Index := Scalar.indexCast arg12
  let c0_315 : Index := 0#32
  ![1, v658.toNat, 0]
def k0_off6 (k0_t1 : Fin k0_t1_loop.trips) : Fin 3 → Nat :=
  let c2_324 : Index := 2#32
  let c0_i32_300 : BitVec 32 := 0#32
  let c1_i32 : BitVec 32 := 1#32
  let arg12 : BitVec 32 := Scf.iv c0_i32_300 c1_i32 k0_t1
  let v686 : Index := Scalar.indexCast arg12
  let c0_325 : Index := 0#32
  ![2, v686.toNat, 0]
def k0_off7 (k0_t1 : Fin k0_t1_loop.trips) : Fin 3 → Nat :=
  let c3_329 : Index := 3#32
  let c0_i32_300 : BitVec 32 := 0#32
  let c1_i32 : BitVec 32 := 1#32
  let arg12 : BitVec 32 := Scf.iv c0_i32_300 c1_i32 k0_t1
  let v699 : Index := Scalar.indexCast arg12
  let c0_330 : Index := 0#32
  ![3, v699.toNat, 0]
def k0_off8 (k0_t1 : Fin k0_t1_loop.trips) : Fin 3 → Nat :=
  let c4_339 : Index := 4#32
  let c0_i32_300 : BitVec 32 := 0#32
  let c1_i32 : BitVec 32 := 1#32
  let arg12 : BitVec 32 := Scf.iv c0_i32_300 c1_i32 k0_t1
  let v727 : Index := Scalar.indexCast arg12
  let c0_340 : Index := 0#32
  ![4, v727.toNat, 0]
def k0_off9 (k0_t1 : Fin k0_t1_loop.trips) : Fin 3 → Nat :=
  let c5_343 : Index := 5#32
  let c0_i32_300 : BitVec 32 := 0#32
  let c1_i32 : BitVec 32 := 1#32
  let arg12 : BitVec 32 := Scf.iv c0_i32_300 c1_i32 k0_t1
  let v740 : Index := Scalar.indexCast arg12
  let c0_344 : Index := 0#32
  ![5, v740.toNat, 0]
def k0_off10 (k0_t1 : Fin k0_t1_loop.trips) : Fin 3 → Nat :=
  let c6_353 : Index := 6#32
  let c0_i32_300 : BitVec 32 := 0#32
  let c1_i32 : BitVec 32 := 1#32
  let arg12 : BitVec 32 := Scf.iv c0_i32_300 c1_i32 k0_t1
  let v768 : Index := Scalar.indexCast arg12
  let c0_354 : Index := 0#32
  ![6, v768.toNat, 0]
def k0_off11 (k0_t1 : Fin k0_t1_loop.trips) : Fin 3 → Nat :=
  let c7_357 : Index := 7#32
  let c0_i32_300 : BitVec 32 := 0#32
  let c1_i32 : BitVec 32 := 1#32
  let arg12 : BitVec 32 := Scf.iv c0_i32_300 c1_i32 k0_t1
  let v781 : Index := Scalar.indexCast arg12
  let c0_358 : Index := 0#32
  ![7, v781.toNat, 0]
def k0_off12 (k0_t1 : Fin k0_t1_loop.trips) : Fin 3 → Nat :=
  let c0_i32_300 : BitVec 32 := 0#32
  let c1_i32 : BitVec 32 := 1#32
  let arg12 : BitVec 32 := Scf.iv c0_i32_300 c1_i32 k0_t1
  let v794 : Index := Scalar.indexCast arg12
  let c32 : Index := 32#32
  let c0_361 : Index := 0#32
  ![v794.toNat, 32, 0]
def k0_off13 (k0_t1 : Fin k0_t1_loop.trips) : Fin 3 → Nat :=
  let c8_368 : Index := 8#32
  let c0_i32_300 : BitVec 32 := 0#32
  let c1_i32 : BitVec 32 := 1#32
  let arg12 : BitVec 32 := Scf.iv c0_i32_300 c1_i32 k0_t1
  let v813 : Index := Scalar.indexCast arg12
  let c0_369 : Index := 0#32
  ![8, v813.toNat, 0]
def k0_off14 (k0_t1 : Fin k0_t1_loop.trips) : Fin 3 → Nat :=
  let c9_372 : Index := 9#32
  let c0_i32_300 : BitVec 32 := 0#32
  let c1_i32 : BitVec 32 := 1#32
  let arg12 : BitVec 32 := Scf.iv c0_i32_300 c1_i32 k0_t1
  let v826 : Index := Scalar.indexCast arg12
  let c0_373 : Index := 0#32
  ![9, v826.toNat, 0]
def k0_off15 (k0_t1 : Fin k0_t1_loop.trips) : Fin 3 → Nat :=
  let c10_381 : Index := 10#32
  let c0_i32_300 : BitVec 32 := 0#32
  let c1_i32 : BitVec 32 := 1#32
  let arg12 : BitVec 32 := Scf.iv c0_i32_300 c1_i32 k0_t1
  let v854 : Index := Scalar.indexCast arg12
  let c0_382 : Index := 0#32
  ![10, v854.toNat, 0]
def k0_off16 (k0_t1 : Fin k0_t1_loop.trips) : Fin 3 → Nat :=
  let c11_385 : Index := 11#32
  let c0_i32_300 : BitVec 32 := 0#32
  let c1_i32 : BitVec 32 := 1#32
  let arg12 : BitVec 32 := Scf.iv c0_i32_300 c1_i32 k0_t1
  let v867 : Index := Scalar.indexCast arg12
  let c0_386 : Index := 0#32
  ![11, v867.toNat, 0]
def k0_off17 (k0_t1 : Fin k0_t1_loop.trips) : Fin 3 → Nat :=
  let c12_395 : Index := 12#32
  let c0_i32_300 : BitVec 32 := 0#32
  let c1_i32 : BitVec 32 := 1#32
  let arg12 : BitVec 32 := Scf.iv c0_i32_300 c1_i32 k0_t1
  let v895 : Index := Scalar.indexCast arg12
  let c0_396 : Index := 0#32
  ![12, v895.toNat, 0]
def k0_off18 (k0_t1 : Fin k0_t1_loop.trips) : Fin 3 → Nat :=
  let c13_399 : Index := 13#32
  let c0_i32_300 : BitVec 32 := 0#32
  let c1_i32 : BitVec 32 := 1#32
  let arg12 : BitVec 32 := Scf.iv c0_i32_300 c1_i32 k0_t1
  let v908 : Index := Scalar.indexCast arg12
  let c0_400 : Index := 0#32
  ![13, v908.toNat, 0]
def k0_off19 (k0_t1 : Fin k0_t1_loop.trips) : Fin 3 → Nat :=
  let c14_408 : Index := 14#32
  let c0_i32_300 : BitVec 32 := 0#32
  let c1_i32 : BitVec 32 := 1#32
  let arg12 : BitVec 32 := Scf.iv c0_i32_300 c1_i32 k0_t1
  let v936 : Index := Scalar.indexCast arg12
  let c0_409 : Index := 0#32
  ![14, v936.toNat, 0]
def k0_off20 (k0_t1 : Fin k0_t1_loop.trips) : Fin 3 → Nat :=
  let c15_412 : Index := 15#32
  let c0_i32_300 : BitVec 32 := 0#32
  let c1_i32 : BitVec 32 := 1#32
  let arg12 : BitVec 32 := Scf.iv c0_i32_300 c1_i32 k0_t1
  let v949 : Index := Scalar.indexCast arg12
  let c0_413 : Index := 0#32
  ![15, v949.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7168 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x28x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S28x64x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S28x32x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S12x28x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S28x1024 .f16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S3x4096x7168 : Shape := ⟨3, ![3, 4096, 7168]⟩
abbrev S3x4096x28 : Shape := ⟨3, ![3, 4096, 28]⟩
abbrev S18432x28x32 : Shape := ⟨3, ![18432, 28, 32]⟩
abbrev S18432x28x64 : Shape := ⟨3, ![18432, 28, 64]⟩
abbrev S18432x28x12 : Shape := ⟨3, ![18432, 28, 12]⟩
abbrev S18432x28 : Shape := ⟨2, ![18432, 28]⟩
abbrev S3x4096x28x256 : Shape := ⟨4, ![3, 4096, 28, 256]⟩
abbrev S3x4096x28x1 : Shape := ⟨4, ![3, 4096, 28, 1]⟩
abbrev S3x4096x28x2x4x32 : Shape := ⟨6, ![3, 4096, 28, 2, 4, 32]⟩
abbrev S18432x28x8 : Shape := ⟨3, ![18432, 28, 8]⟩
abbrev S_ : Shape := ⟨0, ![]⟩
abbrev S18432x28x1x8 : Shape := ⟨4, ![18432, 28, 1, 8]⟩
abbrev S18432x28x2x8 : Shape := ⟨4, ![18432, 28, 2, 8]⟩
abbrev S18432x28x16 : Shape := ⟨3, ![18432, 28, 16]⟩
abbrev S18432x28x4 : Shape := ⟨3, ![18432, 28, 4]⟩
abbrev S4 : Shape := ⟨1, ![4]⟩
abbrev S4x1 : Shape := ⟨2, ![4, 1]⟩
abbrev S18432x28x1x4 : Shape := ⟨4, ![18432, 28, 1, 4]⟩
abbrev S1x1x4x1 : Shape := ⟨4, ![1, 1, 4, 1]⟩
abbrev S18432x28x4x4 : Shape := ⟨4, ![18432, 28, 4, 4]⟩
abbrev S18432x28x1 : Shape := ⟨3, ![18432, 28, 1]⟩
abbrev S18432x28x2x4x2 : Shape := ⟨5, ![18432, 28, 2, 4, 2]⟩
abbrev S18432x28x2x32 : Shape := ⟨4, ![18432, 28, 2, 32]⟩
abbrev S18432x28x1x32 : Shape := ⟨4, ![18432, 28, 1, 32]⟩
abbrev S18432x28x2x16 : Shape := ⟨4, ![18432, 28, 2, 16]⟩
abbrev S18432x28x1x1x2 : Shape := ⟨5, ![18432, 28, 1, 1, 2]⟩
abbrev S18432x28x2 : Shape := ⟨3, ![18432, 28, 2]⟩
abbrev S18432x28x2x1 : Shape := ⟨4, ![18432, 28, 2, 1]⟩
abbrev S3x4096x28x1x1x32 : Shape := ⟨6, ![3, 4096, 28, 1, 1, 32]⟩
abbrev S3x4096x28x32 : Shape := ⟨4, ![3, 4096, 28, 32]⟩
abbrev S3x4096x18432 : Shape := ⟨3, ![3, 4096, 18432]⟩
abbrev S12288x18432 : Shape := ⟨2, ![12288, 18432]⟩

abbrev nBuf : Space → Nat
  | .hbm => 322
  | .vmem => 4
  | .smem => 0
  | _ => 0

abbrev hbmTy0_0 (i : Nat) : BufTy := match i % 128 with
  | 0 => ⟨S3x4096x7168, .i8⟩
  | 1 => ⟨S3x4096x28, .f32⟩
  | 2 => ⟨S18432x28x32, .i8⟩
  | 3 => ⟨S18432x28x64, .i8⟩
  | 4 => ⟨S18432x28x12, .i8⟩
  | 5 => ⟨S18432x28, .f16⟩
  | 6 => ⟨S3x4096x7168, .bf16⟩
  | 7 => ⟨S18432x28, .f32⟩
  | 8 => ⟨S3x4096x28x256, .bf16⟩
  | 9 => ⟨S3x4096x28, .bf16⟩
  | 10 => ⟨S3x4096x28x1, .bf16⟩
  | 11 => ⟨S3x4096x28x256, .bf16⟩
  | 12 => ⟨S3x4096x28x256, .bf16⟩
  | 13 => ⟨S3x4096x28x2x4x32, .bf16⟩
  | 14 => ⟨S18432x28x12, .i32⟩
  | 15 => ⟨S18432x28x8, .i32⟩
  | 16 => ⟨S_, .i32⟩
  | 17 => ⟨S18432x28x8, .i32⟩
  | 18 => ⟨S18432x28x8, .i32⟩
  | 19 => ⟨S_, .i32⟩
  | 20 => ⟨S18432x28x8, .i32⟩
  | 21 => ⟨S18432x28x8, .i32⟩
  | 22 => ⟨S18432x28x1x8, .i32⟩
  | 23 => ⟨S18432x28x1x8, .i32⟩
  | 24 => ⟨S18432x28x2x8, .i32⟩
  | 25 => ⟨S18432x28x16, .i32⟩
  | 26 => ⟨S18432x28x4, .i32⟩
  | 27 => ⟨S4, .i32⟩
  | 28 => ⟨S_, .i32⟩
  | 29 => ⟨S4, .i32⟩
  | 30 => ⟨S4, .i32⟩
  | 31 => ⟨S4x1, .i32⟩
  | 32 => ⟨S18432x28x1x4, .i32⟩
  | 33 => ⟨S1x1x4x1, .i32⟩
  | 34 => ⟨S18432x28x4x4, .i32⟩
  | 35 => ⟨S18432x28x4x4, .i32⟩
  | 36 => ⟨S18432x28x4x4, .i32⟩
  | 37 => ⟨S_, .i32⟩
  | 38 => ⟨S18432x28x4x4, .i32⟩
  | 39 => ⟨S18432x28x4x4, .i32⟩
  | 40 => ⟨S18432x28x16, .i32⟩
  | 41 => ⟨S_, .i32⟩
  | 42 => ⟨S18432x28x16, .i32⟩
  | 43 => ⟨S18432x28x16, .i32⟩
  | 44 => ⟨S18432x28x16, .i32⟩
  | 45 => ⟨S18432x28x1, .f32⟩
  | 46 => ⟨S_, .i32⟩
  | 47 => ⟨S18432x28x16, .i32⟩
  | 48 => ⟨S18432x28x16, .i32⟩
  | 49 => ⟨S18432x28x16, .f32⟩
  | 50 => ⟨S18432x28x16, .f32⟩
  | 51 => ⟨S18432x28x16, .f32⟩
  | 52 => ⟨S18432x28x16, .bf16⟩
  | 53 => ⟨S18432x28x2x4x2, .bf16⟩
  | 54 => ⟨S18432x28x64, .i32⟩
  | 55 => ⟨S18432x28x2x32, .i32⟩
  | 56 => ⟨S18432x28x32, .i32⟩
  | 57 => ⟨S18432x28x1x32, .i32⟩
  | 58 => ⟨S18432x28x32, .i32⟩
  | 59 => ⟨S_, .i32⟩
  | 60 => ⟨S18432x28x32, .i32⟩
  | 61 => ⟨S18432x28x32, .i32⟩
  | 62 => ⟨S_, .i32⟩
  | 63 => ⟨S18432x28x32, .i32⟩
  | 64 => ⟨S18432x28x32, .i32⟩
  | 65 => ⟨S_, .i32⟩
  | 66 => ⟨S18432x28x32, .i32⟩
  | 67 => ⟨S18432x28x32, .i32⟩
  | 68 => ⟨S_, .i32⟩
  | 69 => ⟨S18432x28x32, .i32⟩
  | 70 => ⟨S18432x28x32, .i32⟩
  | 71 => ⟨S_, .i32⟩
  | 72 => ⟨S18432x28x32, .i32⟩
  | 73 => ⟨S18432x28x32, .i32⟩
  | 74 => ⟨S18432x28x32, .i32⟩
  | 75 => ⟨S_, .i32⟩
  | 76 => ⟨S18432x28x32, .i32⟩
  | 77 => ⟨S18432x28x32, .i32⟩
  | 78 => ⟨S18432x28x32, .bf16⟩
  | 79 => ⟨S18432x28x2x16, .bf16⟩
  | 80 => ⟨S18432x28x1x1x2, .bf16⟩
  | 81 => ⟨S18432x28x2, .bf16⟩
  | 82 => ⟨S18432x28x2x1, .bf16⟩
  | 83 => ⟨S18432x28x2x16, .bf16⟩
  | 84 => ⟨S18432x28x2x16, .bf16⟩
  | 85 => ⟨S18432x28x32, .bf16⟩
  | 86 => ⟨S3x4096x28x1x1x32, .bf16⟩
  | 87 => ⟨S3x4096x28x32, .bf16⟩
  | 88 => ⟨S3x4096x18432, .f32⟩
  | 89 => ⟨S18432x28x1x32, .i32⟩
  | 90 => ⟨S18432x28x32, .i32⟩
  | 91 => ⟨S_, .i32⟩
  | 92 => ⟨S18432x28x32, .i32⟩
  | 93 => ⟨S18432x28x32, .i32⟩
  | 94 => ⟨S_, .i32⟩
  | 95 => ⟨S18432x28x32, .i32⟩
  | 96 => ⟨S18432x28x32, .i32⟩
  | 97 => ⟨S_, .i32⟩
  | 98 => ⟨S18432x28x32, .i32⟩
  | 99 => ⟨S18432x28x32, .i32⟩
  | 100 => ⟨S_, .i32⟩
  | 101 => ⟨S18432x28x32, .i32⟩
  | 102 => ⟨S18432x28x32, .i32⟩
  | 103 => ⟨S_, .i32⟩
  | 104 => ⟨S18432x28x32, .i32⟩
  | 105 => ⟨S18432x28x32, .i32⟩
  | 106 => ⟨S18432x28x32, .i32⟩
  | 107 => ⟨S_, .i32⟩
  | 108 => ⟨S18432x28x32, .i32⟩
  | 109 => ⟨S18432x28x32, .i32⟩
  | 110 => ⟨S18432x28x32, .bf16⟩
  | 111 => ⟨S18432x28x2x16, .bf16⟩
  | 112 => ⟨S18432x28x1x1x2, .bf16⟩
  | 113 => ⟨S18432x28x2, .bf16⟩
  | 114 => ⟨S18432x28x2x1, .bf16⟩
  | 115 => ⟨S18432x28x2x16, .bf16⟩
  | 116 => ⟨S18432x28x2x16, .bf16⟩
  | 117 => ⟨S18432x28x32, .bf16⟩
  | 118 => ⟨S3x4096x28x1x1x32, .bf16⟩
  | 119 => ⟨S3x4096x28x32, .bf16⟩
  | 120 => ⟨S3x4096x18432, .f32⟩
  | 121 => ⟨S3x4096x18432, .f32⟩
  | 122 => ⟨S18432x28x1x32, .i32⟩
  | 123 => ⟨S18432x28x32, .i32⟩
  | 124 => ⟨S_, .i32⟩
  | 125 => ⟨S18432x28x32, .i32⟩
  | 126 => ⟨S18432x28x32, .i32⟩
  | 127 => ⟨S_, .i32⟩
  | _ => ⟨S3x4096x7168, .i8⟩

abbrev hbmTy0_1 (i : Nat) : BufTy := match i % 128 with
  | 0 => ⟨S18432x28x32, .i32⟩
  | 1 => ⟨S18432x28x32, .i32⟩
  | 2 => ⟨S_, .i32⟩
  | 3 => ⟨S18432x28x32, .i32⟩
  | 4 => ⟨S18432x28x32, .i32⟩
  | 5 => ⟨S_, .i32⟩
  | 6 => ⟨S18432x28x32, .i32⟩
  | 7 => ⟨S18432x28x32, .i32⟩
  | 8 => ⟨S_, .i32⟩
  | 9 => ⟨S18432x28x32, .i32⟩
  | 10 => ⟨S18432x28x32, .i32⟩
  | 11 => ⟨S18432x28x32, .i32⟩
  | 12 => ⟨S_, .i32⟩
  | 13 => ⟨S18432x28x32, .i32⟩
  | 14 => ⟨S18432x28x32, .i32⟩
  | 15 => ⟨S18432x28x32, .bf16⟩
  | 16 => ⟨S18432x28x2x16, .bf16⟩
  | 17 => ⟨S18432x28x1x1x2, .bf16⟩
  | 18 => ⟨S18432x28x2, .bf16⟩
  | 19 => ⟨S18432x28x2x1, .bf16⟩
  | 20 => ⟨S18432x28x2x16, .bf16⟩
  | 21 => ⟨S18432x28x2x16, .bf16⟩
  | 22 => ⟨S18432x28x32, .bf16⟩
  | 23 => ⟨S3x4096x28x1x1x32, .bf16⟩
  | 24 => ⟨S3x4096x28x32, .bf16⟩
  | 25 => ⟨S3x4096x18432, .f32⟩
  | 26 => ⟨S3x4096x18432, .f32⟩
  | 27 => ⟨S18432x28x1x32, .i32⟩
  | 28 => ⟨S18432x28x32, .i32⟩
  | 29 => ⟨S_, .i32⟩
  | 30 => ⟨S18432x28x32, .i32⟩
  | 31 => ⟨S18432x28x32, .i32⟩
  | 32 => ⟨S_, .i32⟩
  | 33 => ⟨S18432x28x32, .i32⟩
  | 34 => ⟨S18432x28x32, .i32⟩
  | 35 => ⟨S_, .i32⟩
  | 36 => ⟨S18432x28x32, .i32⟩
  | 37 => ⟨S18432x28x32, .i32⟩
  | 38 => ⟨S_, .i32⟩
  | 39 => ⟨S18432x28x32, .i32⟩
  | 40 => ⟨S18432x28x32, .i32⟩
  | 41 => ⟨S_, .i32⟩
  | 42 => ⟨S18432x28x32, .i32⟩
  | 43 => ⟨S18432x28x32, .i32⟩
  | 44 => ⟨S18432x28x32, .i32⟩
  | 45 => ⟨S_, .i32⟩
  | 46 => ⟨S18432x28x32, .i32⟩
  | 47 => ⟨S18432x28x32, .i32⟩
  | 48 => ⟨S18432x28x32, .bf16⟩
  | 49 => ⟨S18432x28x2x16, .bf16⟩
  | 50 => ⟨S18432x28x1x1x2, .bf16⟩
  | 51 => ⟨S18432x28x2, .bf16⟩
  | 52 => ⟨S18432x28x2x1, .bf16⟩
  | 53 => ⟨S18432x28x2x16, .bf16⟩
  | 54 => ⟨S18432x28x2x16, .bf16⟩
  | 55 => ⟨S18432x28x32, .bf16⟩
  | 56 => ⟨S3x4096x28x1x1x32, .bf16⟩
  | 57 => ⟨S3x4096x28x32, .bf16⟩
  | 58 => ⟨S3x4096x18432, .f32⟩
  | 59 => ⟨S3x4096x18432, .f32⟩
  | 60 => ⟨S18432x28x1x32, .i32⟩
  | 61 => ⟨S18432x28x32, .i32⟩
  | 62 => ⟨S_, .i32⟩
  | 63 => ⟨S18432x28x32, .i32⟩
  | 64 => ⟨S18432x28x32, .i32⟩
  | 65 => ⟨S_, .i32⟩
  | 66 => ⟨S18432x28x32, .i32⟩
  | 67 => ⟨S18432x28x32, .i32⟩
  | 68 => ⟨S_, .i32⟩
  | 69 => ⟨S18432x28x32, .i32⟩
  | 70 => ⟨S18432x28x32, .i32⟩
  | 71 => ⟨S_, .i32⟩
  | 72 => ⟨S18432x28x32, .i32⟩
  | 73 => ⟨S18432x28x32, .i32⟩
  | 74 => ⟨S_, .i32⟩
  | 75 => ⟨S18432x28x32, .i32⟩
  | 76 => ⟨S18432x28x32, .i32⟩
  | 77 => ⟨S18432x28x32, .i32⟩
  | 78 => ⟨S_, .i32⟩
  | 79 => ⟨S18432x28x32, .i32⟩
  | 80 => ⟨S18432x28x32, .i32⟩
  | 81 => ⟨S18432x28x32, .bf16⟩
  | 82 => ⟨S18432x28x2x16, .bf16⟩
  | 83 => ⟨S18432x28x1x1x2, .bf16⟩
  | 84 => ⟨S18432x28x2, .bf16⟩
  | 85 => ⟨S18432x28x2x1, .bf16⟩
  | 86 => ⟨S18432x28x2x16, .bf16⟩
  | 87 => ⟨S18432x28x2x16, .bf16⟩
  | 88 => ⟨S18432x28x32, .bf16⟩
  | 89 => ⟨S3x4096x28x1x1x32, .bf16⟩
  | 90 => ⟨S3x4096x28x32, .bf16⟩
  | 91 => ⟨S3x4096x18432, .f32⟩
  | 92 => ⟨S3x4096x18432, .f32⟩
  | 93 => ⟨S18432x28x1x32, .i32⟩
  | 94 => ⟨S18432x28x32, .i32⟩
  | 95 => ⟨S_, .i32⟩
  | 96 => ⟨S18432x28x32, .i32⟩
  | 97 => ⟨S18432x28x32, .i32⟩
  | 98 => ⟨S_, .i32⟩
  | 99 => ⟨S18432x28x32, .i32⟩
  | 100 => ⟨S18432x28x32, .i32⟩
  | 101 => ⟨S_, .i32⟩
  | 102 => ⟨S18432x28x32, .i32⟩
  | 103 => ⟨S18432x28x32, .i32⟩
  | 104 => ⟨S_, .i32⟩
  | 105 => ⟨S18432x28x32, .i32⟩
  | 106 => ⟨S18432x28x32, .i32⟩
  | 107 => ⟨S_, .i32⟩
  | 108 => ⟨S18432x28x32, .i32⟩
  | 109 => ⟨S18432x28x32, .i32⟩
  | 110 => ⟨S18432x28x32, .i32⟩
  | 111 => ⟨S_, .i32⟩
  | 112 => ⟨S18432x28x32, .i32⟩
  | 113 => ⟨S18432x28x32, .i32⟩
  | 114 => ⟨S18432x28x32, .bf16⟩
  | 115 => ⟨S18432x28x2x16, .bf16⟩
  | 116 => ⟨S18432x28x1x1x2, .bf16⟩
  | 117 => ⟨S18432x28x2, .bf16⟩
  | 118 => ⟨S18432x28x2x1, .bf16⟩
  | 119 => ⟨S18432x28x2x16, .bf16⟩
  | 120 => ⟨S18432x28x2x16, .bf16⟩
  | 121 => ⟨S18432x28x32, .bf16⟩
  | 122 => ⟨S3x4096x28x1x1x32, .bf16⟩
  | 123 => ⟨S3x4096x28x32, .bf16⟩
  | 124 => ⟨S3x4096x18432, .f32⟩
  | 125 => ⟨S3x4096x18432, .f32⟩
  | 126 => ⟨S18432x28x1x32, .i32⟩
  | 127 => ⟨S18432x28x32, .i32⟩
  | _ => ⟨S3x4096x7168, .i8⟩

abbrev hbmTy0_2 (i : Nat) : BufTy := match i % 128 with
  | 0 => ⟨S_, .i32⟩
  | 1 => ⟨S18432x28x32, .i32⟩
  | 2 => ⟨S18432x28x32, .i32⟩
  | 3 => ⟨S_, .i32⟩
  | 4 => ⟨S18432x28x32, .i32⟩
  | 5 => ⟨S18432x28x32, .i32⟩
  | 6 => ⟨S_, .i32⟩
  | 7 => ⟨S18432x28x32, .i32⟩
  | 8 => ⟨S18432x28x32, .i32⟩
  | 9 => ⟨S_, .i32⟩
  | 10 => ⟨S18432x28x32, .i32⟩
  | 11 => ⟨S18432x28x32, .i32⟩
  | 12 => ⟨S_, .i32⟩
  | 13 => ⟨S18432x28x32, .i32⟩
  | 14 => ⟨S18432x28x32, .i32⟩
  | 15 => ⟨S18432x28x32, .i32⟩
  | 16 => ⟨S_, .i32⟩
  | 17 => ⟨S18432x28x32, .i32⟩
  | 18 => ⟨S18432x28x32, .i32⟩
  | 19 => ⟨S18432x28x32, .bf16⟩
  | 20 => ⟨S18432x28x2x16, .bf16⟩
  | 21 => ⟨S18432x28x1x1x2, .bf16⟩
  | 22 => ⟨S18432x28x2, .bf16⟩
  | 23 => ⟨S18432x28x2x1, .bf16⟩
  | 24 => ⟨S18432x28x2x16, .bf16⟩
  | 25 => ⟨S18432x28x2x16, .bf16⟩
  | 26 => ⟨S18432x28x32, .bf16⟩
  | 27 => ⟨S3x4096x28x1x1x32, .bf16⟩
  | 28 => ⟨S3x4096x28x32, .bf16⟩
  | 29 => ⟨S3x4096x18432, .f32⟩
  | 30 => ⟨S3x4096x18432, .f32⟩
  | 31 => ⟨S18432x28x1x32, .i32⟩
  | 32 => ⟨S18432x28x32, .i32⟩
  | 33 => ⟨S_, .i32⟩
  | 34 => ⟨S18432x28x32, .i32⟩
  | 35 => ⟨S18432x28x32, .i32⟩
  | 36 => ⟨S_, .i32⟩
  | 37 => ⟨S18432x28x32, .i32⟩
  | 38 => ⟨S18432x28x32, .i32⟩
  | 39 => ⟨S_, .i32⟩
  | 40 => ⟨S18432x28x32, .i32⟩
  | 41 => ⟨S18432x28x32, .i32⟩
  | 42 => ⟨S_, .i32⟩
  | 43 => ⟨S18432x28x32, .i32⟩
  | 44 => ⟨S18432x28x32, .i32⟩
  | 45 => ⟨S_, .i32⟩
  | 46 => ⟨S18432x28x32, .i32⟩
  | 47 => ⟨S18432x28x32, .i32⟩
  | 48 => ⟨S18432x28x32, .i32⟩
  | 49 => ⟨S_, .i32⟩
  | 50 => ⟨S18432x28x32, .i32⟩
  | 51 => ⟨S18432x28x32, .i32⟩
  | 52 => ⟨S18432x28x32, .bf16⟩
  | 53 => ⟨S18432x28x2x16, .bf16⟩
  | 54 => ⟨S18432x28x1x1x2, .bf16⟩
  | 55 => ⟨S18432x28x2, .bf16⟩
  | 56 => ⟨S18432x28x2x1, .bf16⟩
  | 57 => ⟨S18432x28x2x16, .bf16⟩
  | 58 => ⟨S18432x28x2x16, .bf16⟩
  | 59 => ⟨S18432x28x32, .bf16⟩
  | 60 => ⟨S3x4096x28x1x1x32, .bf16⟩
  | 61 => ⟨S3x4096x28x32, .bf16⟩
  | 62 => ⟨S3x4096x18432, .f32⟩
  | 63 => ⟨S3x4096x18432, .f32⟩
  | 64 => ⟨S3x4096x18432, .bf16⟩
  | 65 => ⟨S12288x18432, .bf16⟩
  | _ => ⟨S3x4096x7168, .i8⟩

abbrev hbmTy (i : Nat) : BufTy := match i / 128 with
  | 0 => hbmTy0_0 i
  | 1 => hbmTy0_1 i
  | 2 => hbmTy0_2 i
  | _ => ⟨S3x4096x7168, .i8⟩

abbrev bufTy : (tb : Table) → Fin (tcTables nBuf tb) → BufTy
  | .hbm, ⟨i, _⟩ => hbmTy i
  | .local _ .vmem, ⟨0, _⟩ => ⟨S3x4096x7168, .i8⟩
  | .local _ .vmem, ⟨1, _⟩ => ⟨S18432x28, .f16⟩
  | .local _ .vmem, ⟨2, _⟩ => ⟨S3x4096x7168, .bf16⟩
  | .local _ .vmem, ⟨3, _⟩ => ⟨S18432x28, .f32⟩
  | _, _ => ⟨S3x4096x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_c_6 : Ref sig .tc := ⟨.hbm, 62, rfl⟩
abbrev main_v48 : Ref sig .tc := ⟨.hbm, 63, rfl⟩
abbrev main_v49 : Ref sig .tc := ⟨.hbm, 64, rfl⟩
abbrev main_c_7 : Ref sig .tc := ⟨.hbm, 65, rfl⟩
abbrev main_v50 : Ref sig .tc := ⟨.hbm, 66, rfl⟩
abbrev main_v51 : Ref sig .tc := ⟨.hbm, 67, rfl⟩
abbrev main_c_8 : Ref sig .tc := ⟨.hbm, 68, rfl⟩
abbrev main_v52 : Ref sig .tc := ⟨.hbm, 69, rfl⟩
abbrev main_v53 : Ref sig .tc := ⟨.hbm, 70, rfl⟩
abbrev main_c_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_c_11 : Ref sig .tc := ⟨.hbm, 91, rfl⟩
abbrev main_v72 : Ref sig .tc := ⟨.hbm, 92, rfl⟩
abbrev main_v73 : Ref sig .tc := ⟨.hbm, 93, rfl⟩
abbrev main_c_12 : Ref sig .tc := ⟨.hbm, 94, rfl⟩
abbrev main_v74 : Ref sig .tc := ⟨.hbm, 95, rfl⟩
abbrev main_v75 : Ref sig .tc := ⟨.hbm, 96, rfl⟩
abbrev main_c_13 : Ref sig .tc := ⟨.hbm, 97, rfl⟩
abbrev main_v76 : Ref sig .tc := ⟨.hbm, 98, rfl⟩
abbrev main_v77 : Ref sig .tc := ⟨.hbm, 99, rfl⟩
abbrev main_c_14 : Ref sig .tc := ⟨.hbm, 100, rfl⟩
abbrev main_v78 : Ref sig .tc := ⟨.hbm, 101, rfl⟩
abbrev main_v79 : Ref sig .tc := ⟨.hbm, 102, rfl⟩
abbrev main_c_15 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_c_16 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_c_17 : Ref sig .tc := ⟨.hbm, 124, rfl⟩
abbrev main_v99 : Ref sig .tc := ⟨.hbm, 125, rfl⟩
abbrev main_v100 : Ref sig .tc := ⟨.hbm, 126, rfl⟩
abbrev main_c_18 : Ref sig .tc := ⟨.hbm, 127, rfl⟩
abbrev main_v101 : Ref sig .tc := ⟨.hbm, 128, rfl⟩
abbrev main_v102 : Ref sig .tc := ⟨.hbm, 129, rfl⟩
abbrev main_c_19 : Ref sig .tc := ⟨.hbm, 130, rfl⟩
abbrev main_v103 : Ref sig .tc := ⟨.hbm, 131, rfl⟩
abbrev main_v104 : Ref sig .tc := ⟨.hbm, 132, rfl⟩
abbrev main_c_20 : Ref sig .tc := ⟨.hbm, 133, rfl⟩
abbrev main_v105 : Ref sig .tc := ⟨.hbm, 134, rfl⟩
abbrev main_v106 : Ref sig .tc := ⟨.hbm, 135, rfl⟩
abbrev main_c_21 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_c_22 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_c_23 : Ref sig .tc := ⟨.hbm, 157, rfl⟩
abbrev main_v126 : Ref sig .tc := ⟨.hbm, 158, rfl⟩
abbrev main_v127 : Ref sig .tc := ⟨.hbm, 159, rfl⟩
abbrev main_c_24 : Ref sig .tc := ⟨.hbm, 160, rfl⟩
abbrev main_v128 : Ref sig .tc := ⟨.hbm, 161, rfl⟩
abbrev main_v129 : Ref sig .tc := ⟨.hbm, 162, rfl⟩
abbrev main_c_25 : Ref sig .tc := ⟨.hbm, 163, rfl⟩
abbrev main_v130 : Ref sig .tc := ⟨.hbm, 164, rfl⟩
abbrev main_v131 : Ref sig .tc := ⟨.hbm, 165, rfl⟩
abbrev main_c_26 : Ref sig .tc := ⟨.hbm, 166, rfl⟩
abbrev main_v132 : Ref sig .tc := ⟨.hbm, 167, rfl⟩
abbrev main_v133 : Ref sig .tc := ⟨.hbm, 168, rfl⟩
abbrev main_c_27 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_c_28 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_c_29 : Ref sig .tc := ⟨.hbm, 190, rfl⟩
abbrev main_v153 : Ref sig .tc := ⟨.hbm, 191, rfl⟩
abbrev main_v154 : Ref sig .tc := ⟨.hbm, 192, rfl⟩
abbrev main_c_30 : Ref sig .tc := ⟨.hbm, 193, rfl⟩
abbrev main_v155 : Ref sig .tc := ⟨.hbm, 194, rfl⟩
abbrev main_v156 : Ref sig .tc := ⟨.hbm, 195, rfl⟩
abbrev main_c_31 : Ref sig .tc := ⟨.hbm, 196, rfl⟩
abbrev main_v157 : Ref sig .tc := ⟨.hbm, 197, rfl⟩
abbrev main_v158 : Ref sig .tc := ⟨.hbm, 198, rfl⟩
abbrev main_c_32 : Ref sig .tc := ⟨.hbm, 199, rfl⟩
abbrev main_v159 : Ref sig .tc := ⟨.hbm, 200, rfl⟩
abbrev main_v160 : Ref sig .tc := ⟨.hbm, 201, rfl⟩
abbrev main_c_33 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_c_34 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_c_35 : Ref sig .tc := ⟨.hbm, 223, rfl⟩
abbrev main_v180 : Ref sig .tc := ⟨.hbm, 224, rfl⟩
abbrev main_v181 : Ref sig .tc := ⟨.hbm, 225, rfl⟩
abbrev main_c_36 : Ref sig .tc := ⟨.hbm, 226, rfl⟩
abbrev main_v182 : Ref sig .tc := ⟨.hbm, 227, rfl⟩
abbrev main_v183 : Ref sig .tc := ⟨.hbm, 228, rfl⟩
abbrev main_c_37 : Ref sig .tc := ⟨.hbm, 229, rfl⟩
abbrev main_v184 : Ref sig .tc := ⟨.hbm, 230, rfl⟩
abbrev main_v185 : Ref sig .tc := ⟨.hbm, 231, rfl⟩
abbrev main_c_38 : Ref sig .tc := ⟨.hbm, 232, rfl⟩
abbrev main_v186 : Ref sig .tc := ⟨.hbm, 233, rfl⟩
abbrev main_v187 : Ref sig .tc := ⟨.hbm, 234, rfl⟩
abbrev main_c_39 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_c_40 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_c_41 : Ref sig .tc := ⟨.hbm, 256, rfl⟩
abbrev main_v207 : Ref sig .tc := ⟨.hbm, 257, rfl⟩
abbrev main_v208 : Ref sig .tc := ⟨.hbm, 258, rfl⟩
abbrev main_c_42 : Ref sig .tc := ⟨.hbm, 259, rfl⟩
abbrev main_v209 : Ref sig .tc := ⟨.hbm, 260, rfl⟩
abbrev main_v210 : Ref sig .tc := ⟨.hbm, 261, rfl⟩
abbrev main_c_43 : Ref sig .tc := ⟨.hbm, 262, rfl⟩
abbrev main_v211 : Ref sig .tc := ⟨.hbm, 263, rfl⟩
abbrev main_v212 : Ref sig .tc := ⟨.hbm, 264, rfl⟩
abbrev main_c_44 : Ref sig .tc := ⟨.hbm, 265, rfl⟩
abbrev main_v213 : Ref sig .tc := ⟨.hbm, 266, rfl⟩
abbrev main_v214 : Ref sig .tc := ⟨.hbm, 267, rfl⟩
abbrev main_c_45 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_c_46 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_c_47 : Ref sig .tc := ⟨.hbm, 289, rfl⟩
abbrev main_v234 : Ref sig .tc := ⟨.hbm, 290, rfl⟩
abbrev main_v235 : Ref sig .tc := ⟨.hbm, 291, rfl⟩
abbrev main_c_48 : Ref sig .tc := ⟨.hbm, 292, rfl⟩
abbrev main_v236 : Ref sig .tc := ⟨.hbm, 293, rfl⟩
abbrev main_v237 : Ref sig .tc := ⟨.hbm, 294, rfl⟩
abbrev main_c_49 : Ref sig .tc := ⟨.hbm, 295, rfl⟩
abbrev main_v238 : Ref sig .tc := ⟨.hbm, 296, rfl⟩
abbrev main_v239 : Ref sig .tc := ⟨.hbm, 297, rfl⟩
abbrev main_c_50 : Ref sig .tc := ⟨.hbm, 298, rfl⟩
abbrev main_v240 : Ref sig .tc := ⟨.hbm, 299, rfl⟩
abbrev main_v241 : Ref sig .tc := ⟨.hbm, 300, rfl⟩
abbrev main_c_51 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_c_52 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x4096x7168 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x28 .f16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x4096x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18432x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.RefHost.lean ====
/-
  What the reference's host lines compute, as functions of arrays: the scaled activations in blocks, the group scales, the
  two parts of the weight words, and one of the eight partial products.
-/
module

public import proofs.«01_k».proof.Proof.Gen.ReferenceIdeal.Frame
public import Idealize.ShloMosaic.Lib.StableHlo.ReadAt
public import Idealize.ShloMosaic.Lib.Pointwise

@[expose] public section

set_option maxRecDepth 16384
set_option maxHeartbeats 4000000

noncomputable section

namespace Cert.ReferenceIdeal.Gen

open Idealize.ShloMosaic Idealize.ShloMosaic.TcCoe

variable {F : FTy → Type} [FloatOps F]

/-- The activations times their scales, each block of 256 seen as 2 × 4 × 32. -/
def hostX (x : Vec F S3x4096x7168 .bf16) (s : Vec F S3x4096x28 .f32) : Vec F S3x4096x28x2x4x32 .bf16 :=
  shapeCast S3x4096x28x2x4x32 (mulf (shapeCast S3x4096x28x256 x shapeCasts_S3x4096x7168_S3x4096x28x256)
    (broadcastInDim S3x4096x28x256 ![0, 1, 2, 3] bcast_S3x4096x28x1_S3x4096x28x256_0_1_2_3
      (broadcastInDim S3x4096x28x1 ![0, 1, 2] bcast_S3x4096x28_S3x4096x28x1_0_1_2 (truncf .bf16 s bitsLt_bf16_f32))))
    shapeCasts_S3x4096x28x256_S3x4096x28x2x4x32

/-- The low four bits of the sixteen six-bit scales. -/
def hostLo (w : Vec F S18432x28x12 .i32) : Vec F S18432x28x16 .i32 :=
  let a := extractStridedSlice S18432x28x8 ![0, 0, 0] w slices_S18432x28x12_S18432x28x8_0_0_0
  shapeCast S18432x28x16 (concatenate S18432x28x2x8 2
    [⟨S18432x28x1x8, broadcastInDim S18432x28x1x8 ![0, 1, 3] bcast_S18432x28x8_S18432x28x1x8_0_1_3
      (andi a (broadcastInDim S18432x28x8 ![] bcast_S_S18432x28x8 (constantI S_ 32 15#32)))⟩,
     ⟨S18432x28x1x8, broadcastInDim S18432x28x1x8 ![0, 1, 3] bcast_S18432x28x8_S18432x28x1x8_0_1_3
      (Host.shrsi a (broadcastInDim S18432x28x8 ![] bcast_S_S18432x28x8 (constantI S_ 32 4#32)))⟩]
    concatenates_S18432x28x1x8_S18432x28x1x8_S18432x28x2x8_d2) shapeCasts_S18432x28x2x8_S18432x28x16

/-- The high two bits of the sixteen six-bit scales. -/
def hostHi (w : Vec F S18432x28x12 .i32) : Vec F S18432x28x16 .i32 :=
  shapeCast S18432x28x16 (andi (Host.shrsi
      (broadcastInDim S18432x28x4x4 ![0, 1, 2, 3] bcast_S18432x28x1x4_S18432x28x4x4_0_1_2_3
        (broadcastInDim S18432x28x1x4 ![0, 1, 3] bcast_S18432x28x4_S18432x28x1x4_0_1_3
          (extractStridedSlice S18432x28x4 ![0, 0, 8] w slices_S18432x28x12_S18432x28x4_0_0_8)))
      (broadcastInDim S18432x28x4x4 ![0, 1, 2, 3] bcast_S1x1x4x1_S18432x28x4x4_0_1_2_3
        (broadcastInDim S1x1x4x1 ![2, 3] bcast_S4x1_S1x1x4x1_2_3
          (broadcastInDim S4x1 ![0] bcast_S4_S4x1_0
            (muli (broadcastInDim S4 ![] bcast_S_S4 (constantI S_ 32 2#32)) (iotaInDim S4 32 0))))))
      (broadcastInDim S18432x28x4x4 ![] bcast_S_S18432x28x4x4 (constantI S_ 32 3#32)))
    shapeCasts_S18432x28x4x4_S18432x28x16

/-- The group scales: the block scale times the six-bit scale less 32, the sixteen groups seen as 2 × 4 × 2. -/
def hostG (d : Vec F S18432x28 .f32) (sc : Vec F S18432x28x12 .i8) : Vec F S18432x28x2x4x2 .bf16 :=
  let w : Vec F S18432x28x12 .i32 := extui 32 sc natLt_8_32
  shapeCast S18432x28x2x4x2 (truncf .bf16 (mulf
    (broadcastInDim S18432x28x16 ![0, 1, 2] bcast_S18432x28x1_S18432x28x16_0_1_2
      (broadcastInDim S18432x28x1 ![0, 1] bcast_S18432x28_S18432x28x1_0_1 d))
    (sitofp .f32 (subi (ori (hostLo w) (Host.shli (hostHi w)
        (broadcastInDim S18432x28x16 ![] bcast_S_S18432x28x16 (constantI S_ 32 4#32))))
      (broadcastInDim S18432x28x16 ![] bcast_S_S18432x28x16 (constantI S_ 32 32#32))))) bitsLt_bf16_f32)
    shapeCasts_S18432x28x16_S18432x28x2x4x2

/-- The low words, seen as two halves of 32. -/
def hostQ (q : Vec F S18432x28x64 .i8) : Vec F S18432x28x2x32 .i32 :=
  shapeCast S18432x28x2x32 (extui 32 q natLt_8_32 : Vec F S18432x28x64 .i32) shapeCasts_S18432x28x64_S18432x28x2x32

/-- The partial product at one half and one bit pair, from the three slices at that place and the two shifts `a`, `b`. -/
def hostPart (oq : Fin 4 → ℕ) (og : Fin 5 → ℕ) (ox : Fin 6 → ℕ)
    (hq : S18432x28x2x32.Slices oq S18432x28x1x32) (hg : S18432x28x2x4x2.Slices og S18432x28x1x1x2)
    (hx : S3x4096x28x2x4x32.Slices ox S3x4096x28x1x1x32) (a b : BitVec 32)
    (x : Vec F S3x4096x28x2x4x32 .bf16) (g : Vec F S18432x28x2x4x2 .bf16) (q : Vec F S18432x28x2x32 .i32)
    (w : Vec F S18432x28x32 .i32) : Vec F S3x4096x18432 .f32 :=
  let low : Vec F S18432x28x32 .i32 := andi (Host.shrsi
      (shapeCast S18432x28x32 (extractStridedSlice S18432x28x1x32 oq q hq) shapeCasts_S18432x28x1x32_S18432x28x32)
      (broadcastInDim S18432x28x32 ![] bcast_S_S18432x28x32 (constantI S_ 32 a)))
    (broadcastInDim S18432x28x32 ![] bcast_S_S18432x28x32 (constantI S_ 32 3#32))
  let high : Vec F S18432x28x32 .i32 := andi (Host.shrsi w (broadcastInDim S18432x28x32 ![] bcast_S_S18432x28x32 (constantI S_ 32 b)))
    (broadcastInDim S18432x28x32 ![] bcast_S_S18432x28x32 (constantI S_ 32 1#32))
  let u : Vec F S18432x28x32 .i32 := subi (addi low (muli (broadcastInDim S18432x28x32 ![] bcast_S_S18432x28x32 (constantI S_ 32 4#32)) high))
    (broadcastInDim S18432x28x32 ![] bcast_S_S18432x28x32 (constantI S_ 32 4#32))
  let z : Vec F S18432x28x2x16 .bf16 := mulf (shapeCast S18432x28x2x16 (sitofp .bf16 u : Vec F S18432x28x32 .bf16) shapeCasts_S18432x28x32_S18432x28x2x16)
    (broadcastInDim S18432x28x2x16 ![0, 1, 2, 3] bcast_S18432x28x2x1_S18432x28x2x16_0_1_2_3
      (broadcastInDim S18432x28x2x1 ![0, 1, 2] bcast_S18432x28x2_S18432x28x2x1_0_1_2
        (shapeCast S18432x28x2 (extractStridedSlice S18432x28x1x1x2 og g hg) shapeCasts_S18432x28x1x1x2_S18432x28x2)))
  Host.dotGeneral dot_S3x4096x28x32_S18432x28x32_S3x4096x18432_32_21_01_0_n_n none
    (shapeCast S3x4096x28x32 (extractStridedSlice S3x4096x28x1x1x32 ox x hx) shapeCasts_S3x4096x28x1x1x32_S3x4096x28x32)
    (shapeCast S18432x28x32 z shapeCasts_S18432x28x2x16_S18432x28x32)

/-- The reference's result from the region's two arrays and the arguments: the eight partial products added in order, rounded,
    the leading axes merged. -/
def hostY (x : Vec F S3x4096x7168 .bf16) (s : Vec F S3x4096x28 .f32) (hm : Vec F S18432x28x32 .i8) (qs : Vec F S18432x28x64 .i8)
    (sc : Vec F S18432x28x12 .i8) (d : Vec F S18432x28 .f32) : Vec F S12288x18432 .bf16 :=
  let x6 := hostX x s
  let g := hostG d sc
  let q := hostQ qs
  let w : Vec F S18432x28x32 .i32 := extui 32 hm natLt_8_32
  shapeCast S12288x18432 (truncf .bf16
    (addf (addf (addf (addf (addf (addf (addf
      (hostPart ![0, 0, 0, 0] ![0, 0, 0, 0, 0] ![0, 0, 0, 0, 0, 0] slices_S18432x28x2x32_S18432x28x1x32_0_0_0_0 slices_S18432x28x2x4x2_S18432x28x1x1x2_0_0_0_0_0
        slices_S3x4096x28x2x4x32_S3x4096x28x1x1x32_0_0_0_0_0_0 0#32 0#32 x6 g q w)
      (hostPart ![0, 0, 0, 0] ![0, 0, 0, 1, 0] ![0, 0, 0, 0, 1, 0] slices_S18432x28x2x32_S18432x28x1x32_0_0_0_0 slices_S18432x28x2x4x2_S18432x28x1x1x2_0_0_0_1_0
        slices_S3x4096x28x2x4x32_S3x4096x28x1x1x32_0_0_0_0_1_0 2#32 1#32 x6 g q w))
      (hostPart ![0, 0, 0, 0] ![0, 0, 0, 2, 0] ![0, 0, 0, 0, 2, 0] slices_S18432x28x2x32_S18432x28x1x32_0_0_0_0 slices_S18432x28x2x4x2_S18432x28x1x1x2_0_0_0_2_0
        slices_S3x4096x28x2x4x32_S3x4096x28x1x1x32_0_0_0_0_2_0 4#32 2#32 x6 g q w))
      (hostPart ![0, 0, 0, 0] ![0, 0, 0, 3, 0] ![0, 0, 0, 0, 3, 0] slices_S18432x28x2x32_S18432x28x1x32_0_0_0_0 slices_S18432x28x2x4x2_S18432x28x1x1x2_0_0_0_3_0
        slices_S3x4096x28x2x4x32_S3x4096x28x1x1x32_0_0_0_0_3_0 6#32 3#32 x6 g q w))
      (hostPart ![0, 0, 1, 0] ![0, 0, 1, 0, 0] ![0, 0, 0, 1, 0, 0] slices_S18432x28x2x32_S18432x28x1x32_0_0_1_0 slices_S18432x28x2x4x2_S18432x28x1x1x2_0_0_1_0_0
        slices_S3x4096x28x2x4x32_S3x4096x28x1x1x32_0_0_0_1_0_0 0#32 4#32 x6 g q w))
      (hostPart ![0, 0, 1, 0] ![0, 0, 1, 1, 0] ![0, 0, 0, 1, 1, 0] slices_S18432x28x2x32_S18432x28x1x32_0_0_1_0 slices_S18432x28x2x4x2_S18432x28x1x1x2_0_0_1_1_0
        slices_S3x4096x28x2x4x32_S3x4096x28x1x1x32_0_0_0_1_1_0 2#32 5#32 x6 g q w))
      (hostPart ![0, 0, 1, 0] ![0, 0, 1, 2, 0] ![0, 0, 0, 1, 2, 0] slices_S18432x28x2x32_S18432x28x1x32_0_0_1_0 slices_S18432x28x2x4x2_S18432x28x1x1x2_0_0_1_2_0
        slices_S3x4096x28x2x4x32_S3x4096x28x1x1x32_0_0_0_1_2_0 4#32 6#32 x6 g q w))
      (hostPart ![0, 0, 1, 0] ![0, 0, 1, 3, 0] ![0, 0, 0, 1, 3, 0] slices_S18432x28x2x32_S18432x28x1x32_0_0_1_0 slices_S18432x28x2x4x2_S18432x28x1x1x2_0_0_1_3_0
        slices_S3x4096x28x2x4x32_S3x4096x28x1x1x32_0_0_0_1_3_0 6#32 7#32 x6 g q w)) bitsLt_bf16_f32) shapeCasts_S3x4096x18432_S12288x18432

/-- The result buffer after the host lines, from the contents before them. -/
theorem after_main_v260 (V : Valuation τ sig (Elt F)) :
    StableHlo.after hostOps1 V (Proc.devRef .tc main_v260)
      = hostY (V (Proc.devRef .tc main_v0_0)) (V (Proc.devRef .tc main_arg1)) (V (Proc.devRef .tc main_arg2))
          (V (Proc.devRef .tc main_arg3)) (V (Proc.devRef .tc main_arg4)) (V (Proc.devRef .tc main_v0_1)) := by
  after_reads_simp
  rfl

end Cert.ReferenceIdeal.Gen

end
-- ==== Proof.RefRun.lean ====
/-
  The reference's run: the region converts the integer activations and the block scales to floats, the host lines after it
  compute the result from them.
-/
module

public import proofs.«01_k».proof.Proof.RefHost
public import Idealize.ShloMosaic.Lib.Pipeline.ValueKit
public import Idealize.ShloMosaic.Lib.Pointwise

@[expose] public section

set_option maxRecDepth 16384
set_option maxHeartbeats 400000

noncomputable section

namespace Cert.ReferenceIdeal.Gen

open Cert.ReferenceIdeal Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

theorem idx0 : ∀ t : Fin grid0.N, win0_0.index t = ![0, 0, 0] := by decide +kernel
theorem idx1 : ∀ t : Fin grid0.N, win0_1.index t = ![0, 0] := by decide +kernel
theorem idx2 : ∀ t : Fin grid0.N, win0_2.index t = ![0, 0, 0] := by decide +kernel
theorem idx3 : ∀ t : Fin grid0.N, win0_3.index t = ![0, 0] := by decide +kernel

/-- What the region leaves of the activations: each one as a float. -/
theorem out0_2_eq (x : Vec Ideal S3x4096x7168 .i8) (d : Vec Ideal S18432x28 .f16) : out0_2 x d = sitofp (F := Ideal) .bf16 x := by
  have e : View.ld x r0_0 = x := View.ld_unit_lit' _ x (by intro a; fin_cases a <;> rfl)
  unfold out0_2
  rw [e]
  rw [View.canon_cons_unit_lit' _ _ _ (by intro a; fin_cases a <;> rfl)]
  rfl

/-- What the region leaves of the blocks' scales: the scales. -/
theorem out0_3_eq (x : Vec Ideal S3x4096x7168 .i8) (d : Vec Ideal S18432x28 .f16) : out0_3 x d = d := by
  have e : View.ld d r0_1 = d := View.ld_unit_lit' _ d (by intro a; fin_cases a <;> rfl)
  unfold out0_3
  rw [e]
  rw [View.canon_cons_unit_lit' _ _ _ (by intro a; fin_cases a <;> rfl)]
  rfl

/-- The activations as the host lines find them. -/
theorem region_x : (dats m 0 c).arrAt 2 cfg0.N = sitofp (F := Ideal) .bf16 (m ((c : Thread nD τ).loc main_arg0)) := by
  refine (dats m 0 c).arrAt_eq_of_covers 2 _ (by decide +kernel) fun t hf y => ?_
  rw [after0_2, out0_2_eq]
  blk_simp
  have e : iblk m c 0 t y = m ((c : Thread nD τ).loc main_arg0) ((win0_2.blk t).view.emb y) := by
    blk_ext! [iblk, V, idx0 t, idx2 t]
  exact congrArg (fun z : BitVec 8 => FloatOps.sitofp (F := Ideal) .bf16 z) e

/-- The blocks' scales as the host lines find them. -/
theorem region_d : (dats m 0 c).arrAt 3 cfg0.N = m ((c : Thread nD τ).loc main_arg5) := by
  refine (dats m 0 c).arrAt_eq_of_covers 3 _ (by decide +kernel) fun t hf y => ?_
  rw [after0_3, out0_3_eq]
  blk_simp
  blk_ext! [iblk, V, idx1 t, idx3 t]

theorem windows_injective : Function.Injective (Pipeline.arrRef spec0) := by
  exact (by decide : ∀ a b, Pipeline.arrRef spec0 a = Pipeline.arrRef spec0 b → a = b)

/-- The result after the host lines. -/
theorem tail_result : Pipeline.afterTail₀ cfgs (dats m) 0 (V0 m) [hostOps1] c main_v260
    = hostY (sitofp (F := Ideal) .bf16 (m ((c : Thread nD τ).loc main_arg0))) (m ((c : Thread nD τ).loc main_arg1)) (m ((c : Thread nD τ).loc main_arg2))
        (m ((c : Thread nD τ).loc main_arg3)) (m ((c : Thread nD τ).loc main_arg4)) (m ((c : Thread nD τ).loc main_arg5)) := by
  unfold Pipeline.afterTail₀
  rw [List.flatten_cons, List.flatten_nil, List.append_nil]
  refine (after_main_v260 _).trans ?_
  have ex := (Pipeline.withArrays_arr spec0 windows_injective c (V0 m c) (fun w => (dats m 0 c).arrAt w cfg0.N) 2).trans (region_x m c)
  have ed := (Pipeline.withArrays_arr spec0 windows_injective c (V0 m c) (fun w => (dats m 0 c).arrAt w cfg0.N) 3).trans (region_d m c)
  have e1 := Pipeline.withArrays_of_ne spec0 c (V0 m c) (fun w => (dats m 0 c).arrAt w cfg0.N) main_arg1 (by exact (by decide : ∀ w, Pipeline.arrRef spec0 w ≠ main_arg1))
  have e2 := Pipeline.withArrays_of_ne spec0 c (V0 m c) (fun w => (dats m 0 c).arrAt w cfg0.N) main_arg2 (by exact (by decide : ∀ w, Pipeline.arrRef spec0 w ≠ main_arg2))
  have e3 := Pipeline.withArrays_of_ne spec0 c (V0 m c) (fun w => (dats m 0 c).arrAt w cfg0.N) main_arg3 (by exact (by decide : ∀ w, Pipeline.arrRef spec0 w ≠ main_arg3))
  have e4 := Pipeline.withArrays_of_ne spec0 c (V0 m c) (fun w => (dats m 0 c).arrAt w cfg0.N) main_arg4 (by exact (by decide : ∀ w, Pipeline.arrRef spec0 w ≠ main_arg4))
  exact congr (congr (congr (congr (congr (congrArg hostY ex) e1) e2) e3) e4) ed

/-- Every run of the reference ends with the host lines' result and with its arguments as they were. -/
theorem run : θ_run defs (onTc (τ := τ) (main (F := Ideal))) ⟨m, fun _ => 0, ρ⟩ (fun r => ∀ c : Dev nD,
      r.2.mem ((c.tc : Thread nD τ).loc main_v260)
        = hostY (sitofp (F := Ideal) .bf16 (m ((c : Thread nD τ).loc main_arg0))) (m ((c : Thread nD τ).loc main_arg1)) (m ((c : Thread nD τ).loc main_arg2))
          (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.2 c).2 main_v260 (Pipeline.mem_restRefs_of main_v260 (by decide) (by decide))).trans (tail_result m c), h.1 c⟩)
    (θ_run_and (unchanged m ρ) (run_main m ρ))

end Cert.ReferenceIdeal.Gen

end
-- ==== Proof.Bits.lean ====
/-
  The bits: one quantised weight is put together from two bits of one byte and one bit of another, and less four; and one
  group's six-bit scale from a nibble of one byte and two bits of another, and less 32. Here these words' values are found
  both as a reference computes them (one 32-bit word for each value) and as a kernel does (four bytes to a word).
-/
module

public import Idealize.ShloMosaic.Lib.Pointwise
public import Idealize.ShloMosaic.Lib.BitcastFour

@[expose] public section

set_option maxRecDepth 16384

noncomputable section

namespace Cert.Quant

open Idealize.ShloMosaic

/-- The quantised weight whose low two bits are bits `a`, `a + 1` of `q` and whose high bit is bit `b` of `m`. -/
def qv (q m : BitVec 8) (a b : ℕ) : ℤ := ((q.toNat / 2 ^ a % 4 + 4 * (m.toNat / 2 ^ b % 2) : ℕ) : ℤ) - 4

/-- Two bits of a byte, on 32-bit words. -/
theorem low_word (q : BitVec 8) (j : Fin 4) :
    IntOp.andi (IntOp.shrsi .host (q.setWidth 32) (BitVec.ofNat 32 (2 * j.val))) 3#32 = BitVec.ofNat 32 (q.toNat / 2 ^ (2 * j.val) % 4) := by
  revert q j; decide +kernel

/-- One bit of a byte, on 32-bit words. -/
theorem high_word (m : BitVec 8) (b : Fin 8) :
    IntOp.andi (IntOp.shrsi .host (m.setWidth 32) (BitVec.ofNat 32 b.val)) 1#32 = BitVec.ofNat 32 (m.toNat / 2 ^ b.val % 2) := by
  revert m b; decide +kernel

/-- The value of the two put together, less four. -/
theorem word_toInt : ∀ (p : Fin 4) (r : Fin 2),
    (IntOp.subi (IntOp.addi (BitVec.ofNat 32 p.val) (IntOp.muli 4#32 (BitVec.ofNat 32 r.val))) 4#32).toInt = ((p.val + 4 * r.val : ℕ) : ℤ) - 4 := by
  decide +kernel

/-- The reference's quantised weight. -/
theorem host_qv (q m : BitVec 8) (j : Fin 4) (b : Fin 8) :
    (IntOp.subi (IntOp.addi (IntOp.andi (IntOp.shrsi .host (q.setWidth 32) (BitVec.ofNat 32 (2 * j.val))) 3#32)
      (IntOp.muli 4#32 (IntOp.andi (IntOp.shrsi .host (m.setWidth 32) (BitVec.ofNat 32 b.val)) 1#32))) 4#32).toInt
      = qv q m (2 * j.val) b.val := by
  rw [low_word, high_word]
  exact word_toInt ⟨_, Nat.mod_lt _ (by decide)⟩ ⟨_, Nat.mod_lt _ (by decide)⟩

/-- Bit `8t + p` of the word made of two bits at `a` of each byte of `wq` and one bit at `b` of each byte of `wh`. -/
def packed (wq wh a b : BitVec 32) : BitVec 32 :=
  IntOp.ori (IntOp.andi (IntOp.shrsi .vector wq a) 50529027#32) (IntOp.shli .vector (IntOp.andi (IntOp.shrsi .vector wh b) 16843009#32) 2#32)

/-- The same of one byte alone. -/
def packed8 (q m : BitVec 8) (a b : ℕ) : BitVec 8 := ((q >>> a) &&& 3#8) ||| (((m >>> b) &&& 1#8) <<< 2)

theorem packed8_toInt (q m : BitVec 8) (j : Fin 4) (b : Fin 8) : (packed8 q m (2 * j.val) b.val).toInt = qv q m (2 * j.val) b.val + 4 := by
  have h1 : ∀ (q : BitVec 8) (j : Fin 4), (q >>> (2 * j.val)) &&& 3#8 = BitVec.ofNat 8 (q.toNat / 2 ^ (2 * j.val) % 4) := by decide +kernel
  have h2 : ∀ (m : BitVec 8) (b : Fin 8), (m >>> b.val) &&& 1#8 = BitVec.ofNat 8 (m.toNat / 2 ^ b.val % 2) := by decide +kernel
  have h3 : ∀ (p : Fin 4) (r : Fin 2), (BitVec.ofNat 8 p.val ||| (BitVec.ofNat 8 r.val <<< 2)).toInt = ((p.val + 4 * r.val : ℕ) : ℤ) := by decide +kernel
  unfold packed8 qv
  rw [h1, h2, Int.sub_add_cancel]
  exact h3 ⟨_, Nat.mod_lt _ (by decide)⟩ ⟨_, Nat.mod_lt _ (by decide)⟩

/-- Byte by byte, the packed word is what each byte alone gives. -/
theorem packed_getLsbD (wq wh : BitVec 32) (q m : BitVec 8) (j : Fin 4) (b : Fin 8) (t : Fin 4)
    (hq : ∀ p, p < 8 → wq.getLsbD (8 * t.val + p) = q.getLsbD p) (hm : ∀ p, p < 8 → wh.getLsbD (8 * t.val + p) = m.getLsbD p)
    (p : ℕ) (hp : p < 8) :
    (packed wq wh (BitVec.ofNat 32 (2 * j.val)) (BitVec.ofNat 32 b.val)).getLsbD (8 * t.val + p) = (packed8 q m (2 * j.val) b.val).getLsbD p := by
  have c3 : ∀ (t : Fin 4) (p : Fin 8), (50529027#32).getLsbD (8 * t.val + p.val) = decide (p.val < 2) := by decide +kernel
  have c1 : ∀ (t : Fin 4) (p : Fin 8), 2 ≤ p.val → (16843009#32).getLsbD (8 * t.val + p.val - 2) = decide (p.val < 3) := by decide +kernel
  have c0 : ∀ (t : Fin 4) (p : Fin 8), p.val < 2 → 2 ≤ 8 * t.val + p.val → (16843009#32).getLsbD (8 * t.val + p.val - 2) = false := by decide +kernel
  have d3 : ∀ (p : Fin 8), (3#8).getLsbD p.val = decide (p.val < 2) := by decide +kernel
  have d1 : ∀ (p : Fin 8), (1#8).getLsbD (p.val - 2) = decide (p.val < 3) := by decide +kernel
  have hj := j.isLt
  have hb := b.isLt
  have ht := t.isLt
  have ea : (BitVec.ofNat 32 (2 * j.val)).toNat = 2 * j.val := by rw [BitVec.toNat_ofNat]; omega
  have eb : (BitVec.ofNat 32 b.val).toNat = b.val := by rw [BitVec.toNat_ofNat]; omega
  have c3' := c3 t ⟨p, hp⟩
  have d3' := d3 ⟨p, hp⟩
  have d1' := d1 ⟨p, hp⟩
  simp only at c3' d3' d1'
  simp only [packed, packed8, IntOp.ori, IntOp.andi, IntOp.shrsi, IntOp.shli, ea, eb, if_pos (show 2 * j.val < 32 by omega),
    if_pos (show b.val < 32 by omega), if_pos (show (2#32).toNat < 32 by decide)]
  rw [BitVec.getLsbD_or, BitVec.getLsbD_or, BitVec.getLsbD_and, BitVec.getLsbD_and, c3', d3']
  have sl : ∀ x : BitVec 32, x <<< (2#32) = x <<< (2 : ℕ) := fun _ => rfl
  rw [sl, BitVec.getLsbD_shiftLeft, BitVec.getLsbD_shiftLeft,
    BitVec.getLsbD_and, BitVec.getLsbD_and, d1', BitVec.getLsbD_ushiftRight, BitVec.getLsbD_ushiftRight]
  have e1 : p < 2 → (wq.sshiftRight' (BitVec.ofNat 32 (2 * j.val))).getLsbD (8 * t.val + p) = q.getLsbD (2 * j.val + p) := by
    intro h
    rw [show ∀ y : BitVec 32, wq.sshiftRight' y = wq.sshiftRight y.toNat from fun _ => rfl, ea, BitVec.getLsbD_sshiftRight, ← hq _ (by omega)]
    simp only [show ¬ 32 ≤ 8 * t.val + p by omega, show 2 * j.val + (8 * t.val + p) < 32 by omega, decide_false, if_true, Bool.not_false, Bool.true_and]
    congr 1; omega
  have e2 : p = 2 → (wh.sshiftRight' (BitVec.ofNat 32 b.val)).getLsbD (8 * t.val + p - 2) = m.getLsbD b.val := by
    intro h
    rw [show ∀ y : BitVec 32, wh.sshiftRight' y = wh.sshiftRight y.toNat from fun _ => rfl, eb, BitVec.getLsbD_sshiftRight, ← hm _ (by omega)]
    simp only [show ¬ 32 ≤ 8 * t.val + p - 2 by omega, show b.val + (8 * t.val + p - 2) < 32 by omega, decide_false, if_true, Bool.not_false, Bool.true_and]
    congr 1; omega
  by_cases h2 : p < 2
  · rw [e1 h2]
    by_cases h0 : 2 ≤ 8 * t.val + p
    · have := c0 t ⟨p, hp⟩ h2 h0
      simp only at this
      simp [this, h2]
    · have : 8 * t.val + p < 2 := by omega
      simp [this, h2]
  · have c1' := c1 t ⟨p, hp⟩ (Nat.le_of_not_lt h2)
    simp only at c1'
    rw [c1']
    by_cases h3 : p = 2
    · rw [e2 h3]
      subst h3
      simp
      omega
    · simp [h2, show ¬ p < 3 by omega]

/-! The scales: six bits, less 32. -/

/-- The integer scale of group `i`: a nibble of `lo` (the low one for the first eight groups) and two bits of `hi`, less 32. -/
def sv (lo hi : BitVec 8) (i : ℕ) : ℤ := ((lo.toNat / 16 ^ (i / 8) % 16 + 16 * (hi.toNat / 4 ^ (i / 4) % 4) : ℕ) : ℤ) - 32

theorem nib0_word (lo : BitVec 8) : IntOp.andi (lo.setWidth 32) 15#32 = BitVec.ofNat 32 (lo.toNat / 16 ^ 0 % 16) := by revert lo; decide +kernel

theorem nib1_host (lo : BitVec 8) : IntOp.shrsi .host (lo.setWidth 32) 4#32 = BitVec.ofNat 32 (lo.toNat / 16 ^ 1 % 16) := by revert lo; decide +kernel

theorem nib1_vector (lo : BitVec 8) : IntOp.shrsi .vector (lo.setWidth 32) 4#32 = BitVec.ofNat 32 (lo.toNat / 16 ^ 1 % 16) := by revert lo; decide +kernel

theorem pair_host (hi : BitVec 8) (s : Fin 4) :
    IntOp.andi (IntOp.shrsi .host (hi.setWidth 32) (IntOp.muli 2#32 (BitVec.ofNat 32 s.val))) 3#32 = BitVec.ofNat 32 (hi.toNat / 4 ^ s.val % 4) := by
  revert hi s; decide +kernel

theorem pair_vector (hi : BitVec 8) (s : Fin 4) :
    IntOp.andi (IntOp.shrsi .vector (hi.setWidth 32) (BitVec.ofNat 32 (2 * s.val))) 3#32 = BitVec.ofNat 32 (hi.toNat / 4 ^ s.val % 4) := by
  revert hi s; decide +kernel

theorem six_host : ∀ (p : Fin 16) (r : Fin 4),
    (IntOp.subi (IntOp.ori (BitVec.ofNat 32 p.val) (IntOp.shli .host (BitVec.ofNat 32 r.val) 4#32)) 32#32).toInt = ((p.val + 16 * r.val : ℕ) : ℤ) - 32 := by
  decide +kernel

theorem six_vector : ∀ (p : Fin 16) (r : Fin 4),
    (IntOp.subi (IntOp.ori (BitVec.ofNat 32 p.val) (IntOp.shli .vector (BitVec.ofNat 32 r.val) 4#32)) 32#32).toInt = ((p.val + 16 * r.val : ℕ) : ℤ) - 32 := by
  decide +kernel

/-- The reference's scale, from its two words. -/
theorem host_sv (lo hi : BitVec 8) (i : ℕ) (hi' : i < 16) (w : BitVec 32) (hw : w = BitVec.ofNat 32 (lo.toNat / 16 ^ (i / 8) % 16)) :
    (IntOp.subi (IntOp.ori w (IntOp.shli .host
      (IntOp.andi (IntOp.shrsi .host (hi.setWidth 32) (IntOp.muli 2#32 (BitVec.ofNat 32 (i / 4)))) 3#32) 4#32)) 32#32).toInt = sv lo hi i := by
  rw [pair_host hi ⟨i / 4, by omega⟩, hw]
  exact six_host ⟨_, Nat.mod_lt _ (by decide)⟩ ⟨_, Nat.mod_lt _ (by decide)⟩

/-- The kernel's. -/
theorem vector_sv (lo hi : BitVec 8) (i : ℕ) (s : Fin 4) (hs : i / 4 = s.val) (w : BitVec 32) (hw : w = BitVec.ofNat 32 (lo.toNat / 16 ^ (i / 8) % 16)) :
    (IntOp.subi (IntOp.ori w (IntOp.shli .vector
      (IntOp.andi (IntOp.shrsi .vector (hi.setWidth 32) (BitVec.ofNat 32 (2 * s.val))) 3#32) 4#32)) 32#32).toInt = sv lo hi i := by
  rw [pair_vector hi s, hw, sv, hs]
  exact six_vector ⟨_, Nat.mod_lt _ (by decide)⟩ ⟨_, Nat.mod_lt _ (by decide)⟩

end Cert.Quant

end
-- ==== Proof.KerWord.lean ====
/-
  The kernel's quantised weights: four bytes of a column are taken as one 32-bit word, the bits of all four picked at once, and the
  word split into bytes again. Read at a row and a column, each is the quantised weight of that row's own two bytes.
-/
module

public import proofs.«01_k».proof.Proof.Gen.KernelIdeal.Skeleton
public import proofs.«01_k».proof.Proof.Bits
public import Idealize.ShloMosaic.Lib.Pointwise
public import Idealize.ShloMosaic.Lib.BitcastFour

@[expose] public section

set_option maxRecDepth 16384
set_option maxHeartbeats 4000000

noncomputable section

namespace Cert.KernelIdeal.Gen

open Idealize.ShloMosaic Idealize.ShloMosaic.TcCoe Cert.Quant

/-- Words of bytes back to 32 rows of bytes: row `l` of the result is byte `l % 4` of word row `l / 4`. -/
theorem bytes_getLsbD (x : S8x1024.Idx → BitVec 32) (l : Fin 32) (c : Fin 1024) (p : ℕ) (hp : p < 8) :
    (bitcast S32x1024 8 x bitcasts_S8x1024_w32_S32x1024_w8 (ix2 l c)).getLsbD p
      = (x (ix2 ⟨l.val / 4, by omega⟩ c)).getLsbD (8 * (l.val % 4) + p) := by
  rw [bitcast_getLsbD x _ _ p hp (by decide)]
  have hr : Shape.row (s := S32x1024) (ix2 l c) = l.val := rfl
  have e1 : (Shape.row (s := S32x1024) (ix2 l c) * 8 + p) / 32 = l.val / 4 := by rw [hr]; omega
  have e2 : (Shape.row (s := S32x1024) (ix2 l c) * 8 + p) % 32 = 8 * (l.val % 4) + p := by rw [hr]; omega
  rw [e2]
  congr 2
  funext d
  match d with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

/-- Rows of bytes to words: byte `t` of word row `a` is row `4 a + t`. -/
theorem word_getLsbD (x : S32x1024.Idx → BitVec 8) (l : Fin 32) (c : Fin 1024) (p : ℕ) (hp : p < 8) :
    (bitcast S8x1024 32 x bitcasts_S32x1024_w8_S8x1024_w32 (ix2 ⟨l.val / 4, by omega⟩ c)).getLsbD (8 * (l.val % 4) + p)
      = (x (ix2 l c)).getLsbD p := by
  have h := bitcast_8_32_getLsbD_ix2 x bitcasts_S32x1024_w8_S8x1024_w32 ⟨l.val / 4, by omega⟩ c (8 * (l.val % 4) + p) (by omega) l
    (by show l.val = 4 * (l.val / 4) + (8 * (l.val % 4) + p) / 8; omega)
  rw [← ix2_eq_valueIdx, ← ix2_eq_valueIdx] at h
  rw [h]
  congr 1; omega

/-- The kernel's quantised weights of 32 rows, from the words of the high bits and of the low bits and the two shifts. -/
def unpackW (wh wq : IVec S8x1024 32) (a b : BitVec 32) : FVec Ideal S32x1024 .bf16 :=
  subf (sitofp .bf16 (bitcast S32x1024 8 (ori (andi (shrsi wq (broadcast S8x1024 a)) (broadcast S8x1024 50529027#32))
      (shli (andi (shrsi wh (broadcast S8x1024 b)) (broadcast S8x1024 16843009#32)) (broadcast S8x1024 2#32))) bitcasts_S8x1024_w32_S32x1024_w8))
    (broadcast S32x1024 (Scalar.ofBits .bf16 0x4080#16))

theorem ofBits_four : (Scalar.ofBits .bf16 0x4080#16 : Ideal .bf16) = ((4 : ℝ) : EReal) := by
  show Ideal.ofBits .bf16 0x4080#16 = _
  have h1 : (16512 >>> 7 % 256 : ℕ) = 129 := by decide
  have h2 : BitVec.extractLsb' 15 1 16512#16 = 0#1 := by decide
  norm_num [Ideal.ofBits, Ideal.ieee]
  rw [h1, h2]
  norm_num
  rw [show ((16512 : ℤ) >>> 7 % 256 - 127 - 7) = -5 by decide, ← EReal.coe_mul]
  norm_num

/-- Read at a row and a column: the quantised weight of that row's two bytes. -/
theorem unpackW_at (hm qs : Vec Ideal S1x32x1024 .i8) (j : Fin 4) (b : Fin 8) (l : Fin 32) (c : Fin 1024) :
    unpackW (k0_pay1 (F := Ideal) hm) (k0_pay2 (F := Ideal) qs) (BitVec.ofNat 32 (2 * j.val)) (BitVec.ofNat 32 b.val) (ix2 l c)
      = (((qv (qs (ix3 0 l c)) (hm (ix3 0 l c)) (2 * j.val) b.val : ℤ) : ℝ) : EReal) := by
  have hb : bitcast S32x1024 8 (ori (andi (shrsi (k0_pay2 (F := Ideal) qs) (broadcast S8x1024 (BitVec.ofNat 32 (2 * j.val)))) (broadcast S8x1024 50529027#32))
      (shli (andi (shrsi (k0_pay1 (F := Ideal) hm) (broadcast S8x1024 (BitVec.ofNat 32 b.val))) (broadcast S8x1024 16843009#32)) (broadcast S8x1024 2#32)))
      bitcasts_S8x1024_w32_S32x1024_w8 (ix2 l c) = packed8 (qs (ix3 0 l c)) (hm (ix3 0 l c)) (2 * j.val) b.val := by
    refine BitVec.eq_of_getLsbD_eq fun p hp => ?_
    rw [bytes_getLsbD _ l c p hp]
    refine packed_getLsbD _ _ _ _ j b ⟨l.val % 4, by omega⟩ (fun p hp => ?_) (fun p hp => ?_) p hp
    · rw [k0_pay2]
      refine (word_getLsbD _ l c p hp).trans ?_
      pointwise
    · rw [k0_pay1]
      refine (word_getLsbD _ l c p hp).trans ?_
      pointwise
  show (((bitcast S32x1024 8 _ bitcasts_S8x1024_w32_S32x1024_w8 (ix2 l c)).toInt : ℝ) : EReal) - (Scalar.ofBits .bf16 0x4080#16 : Ideal .bf16) = _
  rw [hb, packed8_toInt, ofBits_four, ← EReal.coe_sub]
  congr 1
  push_cast
  ring

end Cert.KernelIdeal.Gen

end
-- ==== Proof.KerTrip.lean ====
/-
  What one trip of the kernel's dequantising loop writes: sixteen bands of sixteen rows, each the quantised weights of its rows
  times its group's scales.
-/
module

public import proofs.«01_k».proof.Proof.Gen.KernelIdeal.Loops
public import proofs.«01_k».proof.Proof.KerWord
public import Idealize.ShloMosaic.Lib.Pipeline.ValueKit
public import Idealize.ShloMosaic.Lib.Pipeline.ReadBack

@[expose] public section

set_option maxRecDepth 16384
set_option maxHeartbeats 4000000

noncomputable section

namespace Cert.KernelIdeal.Gen

open Idealize.ShloMosaic Idealize.ShloMosaic.TcCoe Idealize.ShloMosaic.Tactic Cert.Quant
open Idealize.SL Idealize.SL.Sem

/-- One band: sixteen of the 32 unpacked rows, from row `o 0`, times the band's row of scales. -/
def wBand (hm qs : Vec Ideal S1x32x1024 .i8) (a b : BitVec 32) (o : Fin 2 → ℕ) (ho : S32x1024.Slices o S16x1024) (g : Vec Ideal S1x1x1024 .f32) :
    FVec Ideal S16x1024 .bf16 :=
  shapeCast S16x1024 (mulf (extractStridedSlice S16x1024 o (unpackW (k0_pay1 (F := Ideal) hm) (k0_pay2 (F := Ideal) qs) a b) ho)
    (broadcastTo S16x1024 (truncf .bf16 (shapeCast S1x1024 g shapeCasts_S1x1x1024_S1x1024) bitsLt_bf16_f32) broadcasts_S1x1024_S16x1024))
    shapeCasts_S16x1024_S16x1024

theorem wBand_at (hm qs : Vec Ideal S1x32x1024 .i8) (a b : BitVec 32) (o : Fin 2 → ℕ) (ho : S32x1024.Slices o S16x1024) (g : Vec Ideal S1x1x1024 .f32)
    (e : Fin 2) (he : o = ![16 * e.val, 0]) (l : Fin 16) (c : Fin 1024) :
    wBand hm qs a b o ho g (ix2 l c) = unpackW (k0_pay1 (F := Ideal) hm) (k0_pay2 (F := Ideal) qs) a b (ix2 ⟨16 * e.val + l.val, by omega⟩ c) * g (ix3 0 0 c) := by
  subst he
  pointwise [wBand]

/-- The weights of the kernel's panel: at row `k` of block `k / 256`, the quantised weight of the bytes there times the scale there. -/
def wVal (Q : S28x64x1024.Idx → BitVec 8) (M : S28x32x1024.Idx → BitVec 8) (G : S16x28x1024.Idx → EReal) (y : S7168x1024.Idx) : EReal :=
  let k : ℕ := (y 0).val
  have hk : k < 7168 := (y 0).isLt
  let n : Fin 28 := ⟨k / 256, by omega⟩
  (((qv (Q (ix3 n ⟨32 * (k % 256 / 128) + k % 32, by omega⟩ (y 1))) (M (ix3 n ⟨k % 32, by omega⟩ (y 1))) (2 * (k % 128 / 32)) (4 * (k % 256 / 128) + k % 128 / 32) : ℤ) : ℝ) : EReal)
    * G (ix3 ⟨k % 256 / 16, by omega⟩ n (y 1))

theorem off4_eq : ∀ (k : Fin k0_t1_loop.trips) (r : Fin 16), k0_off4 k (BitVec.ofNat 32 (16 * r.val)) = ![256 * k.val + 16 * r.val, 0] := by
  decide +kernel

theorem off1_eq : ∀ k : Fin k0_t1_loop.trips, k0_off1 k = ![k.val, 0, 0] := by decide +kernel
theorem off2_eq : ∀ k : Fin k0_t1_loop.trips, k0_off2 k = ![k.val, 0, 0] := by decide +kernel
theorem off12_eq : ∀ k : Fin k0_t1_loop.trips, k0_off12 k = ![k.val, 32, 0] := by decide +kernel
theorem off3_eq : ∀ k : Fin k0_t1_loop.trips, k0_off3 k = ![0, k.val, 0] := by decide +kernel
theorem off5_eq : ∀ k : Fin k0_t1_loop.trips, k0_off5 k = ![1, k.val, 0] := by decide +kernel
theorem off6_eq : ∀ k : Fin k0_t1_loop.trips, k0_off6 k = ![2, k.val, 0] := by decide +kernel
theorem off7_eq : ∀ k : Fin k0_t1_loop.trips, k0_off7 k = ![3, k.val, 0] := by decide +kernel
theorem off8_eq : ∀ k : Fin k0_t1_loop.trips, k0_off8 k = ![4, k.val, 0] := by decide +kernel
theorem off9_eq : ∀ k : Fin k0_t1_loop.trips, k0_off9 k = ![5, k.val, 0] := by decide +kernel
theorem off10_eq : ∀ k : Fin k0_t1_loop.trips, k0_off10 k = ![6, k.val, 0] := by decide +kernel
theorem off11_eq : ∀ k : Fin k0_t1_loop.trips, k0_off11 k = ![7, k.val, 0] := by decide +kernel
theorem off13_eq : ∀ k : Fin k0_t1_loop.trips, k0_off13 k = ![8, k.val, 0] := by decide +kernel
theorem off14_eq : ∀ k : Fin k0_t1_loop.trips, k0_off14 k = ![9, k.val, 0] := by decide +kernel
theorem off15_eq : ∀ k : Fin k0_t1_loop.trips, k0_off15 k = ![10, k.val, 0] := by decide +kernel
theorem off16_eq : ∀ k : Fin k0_t1_loop.trips, k0_off16 k = ![11, k.val, 0] := by decide +kernel
theorem off17_eq : ∀ k : Fin k0_t1_loop.trips, k0_off17 k = ![12, k.val, 0] := by decide +kernel
theorem off18_eq : ∀ k : Fin k0_t1_loop.trips, k0_off18 k = ![13, k.val, 0] := by decide +kernel
theorem off19_eq : ∀ k : Fin k0_t1_loop.trips, k0_off19 k = ![14, k.val, 0] := by decide +kernel
theorem off20_eq : ∀ k : Fin k0_t1_loop.trips, k0_off20 k = ![15, k.val, 0] := by decide +kernel

/-- The trip's stores, last first, from what the three buffers it reads hold. -/
def tripBands (i : grid0.Coords) (h : k0_cond1 i = 1#1) (Q : Vec Ideal S28x64x1024 .i8) (M : Vec Ideal S28x32x1024 .i8) (G : Vec Ideal S16x28x1024 .f32)
    (k : Fin k0_t1_loop.trips) : List (View.Piece (Elt Ideal) S7168x1024 .bf16) := [
  ⟨Rect.unit (s := S7168x1024) (k0_off4 k 240#32) S16x1024.size (k0_off4_inb i k h 15),
    wBand (View.ld M (Rect.unit (s := S28x32x1024) (k0_off1 k) S1x32x1024.size (k0_off1_inb i k h)))
      (View.ld Q (Rect.unit (s := S28x64x1024) (k0_off12 k) S1x32x1024.size (k0_off12_inb i k h))) 6#32 7#32 ![16, 0] slices_S32x1024_o16_0_S16x1024
      (View.ld G (Rect.unit (s := S16x28x1024) (k0_off20 k) S1x1x1024.size (k0_off20_inb i k h)))⟩,
  ⟨Rect.unit (s := S7168x1024) (k0_off4 k 224#32) S16x1024.size (k0_off4_inb i k h 14),
    wBand (View.ld M (Rect.unit (s := S28x32x1024) (k0_off1 k) S1x32x1024.size (k0_off1_inb i k h)))
      (View.ld Q (Rect.unit (s := S28x64x1024) (k0_off12 k) S1x32x1024.size (k0_off12_inb i k h))) 6#32 7#32 ![0, 0] slices_S32x1024_o0_0_S16x1024
      (View.ld G (Rect.unit (s := S16x28x1024) (k0_off19 k) S1x1x1024.size (k0_off19_inb i k h)))⟩,
  ⟨Rect.unit (s := S7168x1024) (k0_off4 k 208#32) S16x1024.size (k0_off4_inb i k h 13),
    wBand (View.ld M (Rect.unit (s := S28x32x1024) (k0_off1 k) S1x32x1024.size (k0_off1_inb i k h)))
      (View.ld Q (Rect.unit (s := S28x64x1024) (k0_off12 k) S1x32x1024.size (k0_off12_inb i k h))) 4#32 6#32 ![16, 0] slices_S32x1024_o16_0_S16x1024
      (View.ld G (Rect.unit (s := S16x28x1024) (k0_off18 k) S1x1x1024.size (k0_off18_inb i k h)))⟩,
  ⟨Rect.unit (s := S7168x1024) (k0_off4 k 192#32) S16x1024.size (k0_off4_inb i k h 12),
    wBand (View.ld M (Rect.unit (s := S28x32x1024) (k0_off1 k) S1x32x1024.size (k0_off1_inb i k h)))
      (View.ld Q (Rect.unit (s := S28x64x1024) (k0_off12 k) S1x32x1024.size (k0_off12_inb i k h))) 4#32 6#32 ![0, 0] slices_S32x1024_o0_0_S16x1024
      (View.ld G (Rect.unit (s := S16x28x1024) (k0_off17 k) S1x1x1024.size (k0_off17_inb i k h)))⟩,
  ⟨Rect.unit (s := S7168x1024) (k0_off4 k 176#32) S16x1024.size (k0_off4_inb i k h 11),
    wBand (View.ld M (Rect.unit (s := S28x32x1024) (k0_off1 k) S1x32x1024.size (k0_off1_inb i k h)))
      (View.ld Q (Rect.unit (s := S28x64x1024) (k0_off12 k) S1x32x1024.size (k0_off12_inb i k h))) 2#32 5#32 ![16, 0] slices_S32x1024_o16_0_S16x1024
      (View.ld G (Rect.unit (s := S16x28x1024) (k0_off16 k) S1x1x1024.size (k0_off16_inb i k h)))⟩,
  ⟨Rect.unit (s := S7168x1024) (k0_off4 k 160#32) S16x1024.size (k0_off4_inb i k h 10),
    wBand (View.ld M (Rect.unit (s := S28x32x1024) (k0_off1 k) S1x32x1024.size (k0_off1_inb i k h)))
      (View.ld Q (Rect.unit (s := S28x64x1024) (k0_off12 k) S1x32x1024.size (k0_off12_inb i k h))) 2#32 5#32 ![0, 0] slices_S32x1024_o0_0_S16x1024
      (View.ld G (Rect.unit (s := S16x28x1024) (k0_off15 k) S1x1x1024.size (k0_off15_inb i k h)))⟩,
  ⟨Rect.unit (s := S7168x1024) (k0_off4 k 144#32) S16x1024.size (k0_off4_inb i k h 9),
    wBand (View.ld M (Rect.unit (s := S28x32x1024) (k0_off1 k) S1x32x1024.size (k0_off1_inb i k h)))
      (View.ld Q (Rect.unit (s := S28x64x1024) (k0_off12 k) S1x32x1024.size (k0_off12_inb i k h))) 0#32 4#32 ![16, 0] slices_S32x1024_o16_0_S16x1024
      (View.ld G (Rect.unit (s := S16x28x1024) (k0_off14 k) S1x1x1024.size (k0_off14_inb i k h)))⟩,
  ⟨Rect.unit (s := S7168x1024) (k0_off4 k 128#32) S16x1024.size (k0_off4_inb i k h 8),
    wBand (View.ld M (Rect.unit (s := S28x32x1024) (k0_off1 k) S1x32x1024.size (k0_off1_inb i k h)))
      (View.ld Q (Rect.unit (s := S28x64x1024) (k0_off12 k) S1x32x1024.size (k0_off12_inb i k h))) 0#32 4#32 ![0, 0] slices_S32x1024_o0_0_S16x1024
      (View.ld G (Rect.unit (s := S16x28x1024) (k0_off13 k) S1x1x1024.size (k0_off13_inb i k h)))⟩,
  ⟨Rect.unit (s := S7168x1024) (k0_off4 k 112#32) S16x1024.size (k0_off4_inb i k h 7),
    wBand (View.ld M (Rect.unit (s := S28x32x1024) (k0_off1 k) S1x32x1024.size (k0_off1_inb i k h)))
      (View.ld Q (Rect.unit (s := S28x64x1024) (k0_off2 k) S1x32x1024.size (k0_off2_inb i k h))) 6#32 3#32 ![16, 0] slices_S32x1024_o16_0_S16x1024
      (View.ld G (Rect.unit (s := S16x28x1024) (k0_off11 k) S1x1x1024.size (k0_off11_inb i k h)))⟩,
  ⟨Rect.unit (s := S7168x1024) (k0_off4 k 96#32) S16x1024.size (k0_off4_inb i k h 6),
    wBand (View.ld M (Rect.unit (s := S28x32x1024) (k0_off1 k) S1x32x1024.size (k0_off1_inb i k h)))
      (View.ld Q (Rect.unit (s := S28x64x1024) (k0_off2 k) S1x32x1024.size (k0_off2_inb i k h))) 6#32 3#32 ![0, 0] slices_S32x1024_o0_0_S16x1024
      (View.ld G (Rect.unit (s := S16x28x1024) (k0_off10 k) S1x1x1024.size (k0_off10_inb i k h)))⟩,
  ⟨Rect.unit (s := S7168x1024) (k0_off4 k 80#32) S16x1024.size (k0_off4_inb i k h 5),
    wBand (View.ld M (Rect.unit (s := S28x32x1024) (k0_off1 k) S1x32x1024.size (k0_off1_inb i k h)))
      (View.ld Q (Rect.unit (s := S28x64x1024) (k0_off2 k) S1x32x1024.size (k0_off2_inb i k h))) 4#32 2#32 ![16, 0] slices_S32x1024_o16_0_S16x1024
      (View.ld G (Rect.unit (s := S16x28x1024) (k0_off9 k) S1x1x1024.size (k0_off9_inb i k h)))⟩,
  ⟨Rect.unit (s := S7168x1024) (k0_off4 k 64#32) S16x1024.size (k0_off4_inb i k h 4),
    wBand (View.ld M (Rect.unit (s := S28x32x1024) (k0_off1 k) S1x32x1024.size (k0_off1_inb i k h)))
      (View.ld Q (Rect.unit (s := S28x64x1024) (k0_off2 k) S1x32x1024.size (k0_off2_inb i k h))) 4#32 2#32 ![0, 0] slices_S32x1024_o0_0_S16x1024
      (View.ld G (Rect.unit (s := S16x28x1024) (k0_off8 k) S1x1x1024.size (k0_off8_inb i k h)))⟩,
  ⟨Rect.unit (s := S7168x1024) (k0_off4 k 48#32) S16x1024.size (k0_off4_inb i k h 3),
    wBand (View.ld M (Rect.unit (s := S28x32x1024) (k0_off1 k) S1x32x1024.size (k0_off1_inb i k h)))
      (View.ld Q (Rect.unit (s := S28x64x1024) (k0_off2 k) S1x32x1024.size (k0_off2_inb i k h))) 2#32 1#32 ![16, 0] slices_S32x1024_o16_0_S16x1024
      (View.ld G (Rect.unit (s := S16x28x1024) (k0_off7 k) S1x1x1024.size (k0_off7_inb i k h)))⟩,
  ⟨Rect.unit (s := S7168x1024) (k0_off4 k 32#32) S16x1024.size (k0_off4_inb i k h 2),
    wBand (View.ld M (Rect.unit (s := S28x32x1024) (k0_off1 k) S1x32x1024.size (k0_off1_inb i k h)))
      (View.ld Q (Rect.unit (s := S28x64x1024) (k0_off2 k) S1x32x1024.size (k0_off2_inb i k h))) 2#32 1#32 ![0, 0] slices_S32x1024_o0_0_S16x1024
      (View.ld G (Rect.unit (s := S16x28x1024) (k0_off6 k) S1x1x1024.size (k0_off6_inb i k h)))⟩,
  ⟨Rect.unit (s := S7168x1024) (k0_off4 k 16#32) S16x1024.size (k0_off4_inb i k h 1),
    wBand (View.ld M (Rect.unit (s := S28x32x1024) (k0_off1 k) S1x32x1024.size (k0_off1_inb i k h)))
      (View.ld Q (Rect.unit (s := S28x64x1024) (k0_off2 k) S1x32x1024.size (k0_off2_inb i k h))) 0#32 0#32 ![16, 0] slices_S32x1024_o16_0_S16x1024
      (View.ld G (Rect.unit (s := S16x28x1024) (k0_off5 k) S1x1x1024.size (k0_off5_inb i k h)))⟩,
  ⟨Rect.unit (s := S7168x1024) (k0_off4 k 0#32) S16x1024.size (k0_off4_inb i k h 0),
    wBand (View.ld M (Rect.unit (s := S28x32x1024) (k0_off1 k) S1x32x1024.size (k0_off1_inb i k h)))
      (View.ld Q (Rect.unit (s := S28x64x1024) (k0_off2 k) S1x32x1024.size (k0_off2_inb i k h))) 0#32 0#32 ![0, 0] slices_S32x1024_o0_0_S16x1024
      (View.ld G (Rect.unit (s := S16x28x1024) (k0_off3 k) S1x1x1024.size (k0_off3_inb i k h)))⟩]

/-- They are what the trip stores. -/
theorem tripL_eq  (𝒱 : Variants) (c : Dev nD) (bd : Option 𝒱.V) (i : grid0.Coords) (arg2 : Memref sig .tc .vmem S512x7168 .i8) (harg2 : arg2.IsWhole) (arg3 : Memref sig .tc .vmem S1x28x512 .f32) (harg3 : arg3.IsWhole) (arg4 : Memref sig .tc .vmem S28x64x1024 .i8) (harg4 : arg4.IsWhole) (arg5 : Memref sig .tc .vmem S28x32x1024 .i8) (harg5 : arg5.IsWhole) (arg6 : Memref sig .tc .vmem S12x28x1024 .i8) (harg6 : arg6.IsWhole) (arg7 : Memref sig .tc .vmem S28x1024 .f16) (harg7 : arg7.IsWhole) (arg8 : Memref sig .tc .vmem S512x1024 .bf16) (harg8 : arg8.IsWhole) (arg9 : Memref sig .tc .vmem S16x28x1024 .f32) (harg9 : arg9.IsWhole) (arg10 : Memref sig .tc .vmem S7168x1024 .bf16) (harg10 : arg10.IsWhole) (arg11 : Memref sig .tc .vmem S512x7168 .bf16) (harg11 : arg11.IsWhole) (k0_h1 : k0_cond1 i = 1#1) (c0_i32_300 : BitVec 32) (X_arg4 : BufTy.Contents (Elt Ideal) arg4.view.ty) (X_arg5 : BufTy.Contents (Elt Ideal) arg5.view.ty) (X_arg9 : BufTy.Contents (Elt Ideal) arg9.view.ty) (k : Fin k0_t1_loop.trips)  :
    tripL_k0_t1 (F := Ideal) 𝒱 c bd i arg2 harg2 arg3 harg3 arg4 harg4 arg5 harg5 arg6 harg6 arg7 harg7 arg8 harg8 arg9 harg9 arg10 harg10 arg11 harg11 k0_h1 c0_i32_300 X_arg4 X_arg5 X_arg9 k
      = tripBands i k0_h1 (arg4.view.read (Elt Ideal) X_arg4) (arg5.view.read (Elt Ideal) X_arg5) (arg9.view.read (Elt Ideal) X_arg9) k := by
  unfold tripL_k0_t1 trip_k0_t1
  rfl

/-- One band holds the panel's weights at its rows. -/
theorem band_val (Q : Vec Ideal S28x64x1024 .i8) (M : Vec Ideal S28x32x1024 .i8) (G : Vec Ideal S16x28x1024 .f32)
    (k : Fin k0_t1_loop.trips) (h : Fin 2) (j : Fin 4) (e : Fin 2) (o4 : Fin 2 → ℕ) (o1 o2 o3 : Fin 3 → ℕ) (b4 b1 b2 b3)
    (a b : BitVec 32) (o : Fin 2 → ℕ) (ho : S32x1024.Slices o S16x1024)
    (e4 : o4 = ![256 * k.val + (128 * h.val + 32 * j.val + 16 * e.val), 0]) (e1 : o1 = ![k.val, 0, 0]) (e2 : o2 = ![k.val, 32 * h.val, 0])
    (e3 : o3 = ![8 * h.val + 2 * j.val + e.val, k.val, 0]) (eo : o = ![16 * e.val, 0]) (ea : a = BitVec.ofNat 32 (2 * j.val)) (eb : b = BitVec.ofNat 32 (4 * h.val + j.val))
    (x : S16x1024.Idx) :
    wBand (View.ld M (Rect.unit (s := S28x32x1024) o1 S1x32x1024.size b1)) (View.ld Q (Rect.unit (s := S28x64x1024) o2 S1x32x1024.size b2)) a b o ho
        (View.ld G (Rect.unit (s := S16x28x1024) o3 S1x1x1024.size b3)) x
      = wVal Q M G ((Rect.unit (s := S7168x1024) o4 S16x1024.size b4).emb x) := by
  have hk : k.val < 28 := Nat.lt_of_lt_of_le k.isLt k0_t1_abs.2.1
  subst e4 e1 e2 e3 ea eb
  obtain ⟨l, c, rfl⟩ : ∃ (l : Fin 16) (c : Fin 1024), x = ix2 l c := ⟨x 0, x 1, by idx_vars x⟩
  have hh := h.isLt
  have hj := j.isLt
  have he := e.isLt
  have hl := l.isLt
  rw [wBand_at _ _ _ _ _ _ _ e eo, unpackW_at _ _ j ⟨4 * h.val + j.val, by omega⟩]
  have ey0 : (((Rect.unit (s := S7168x1024) ![256 * k.val + (128 * h.val + 32 * j.val + 16 * e.val), 0] S16x1024.size b4).emb (ix2 l c)) 0).val
      = 256 * k.val + (128 * h.val + 32 * j.val + 16 * e.val) + l.val := by
    exact Rect.idx_unit_val _ _ b4 (ix2 l c) 0
  have ey1 : (((Rect.unit (s := S7168x1024) ![256 * k.val + (128 * h.val + 32 * j.val + 16 * e.val), 0] S16x1024.size b4).emb (ix2 l c)) 1).val
      = 0 + c.val := by
    exact Rect.idx_unit_val _ _ b4 (ix2 l c) 1
  generalize (Rect.unit (s := S7168x1024) ![256 * k.val + (128 * h.val + 32 * j.val + 16 * e.val), 0] S16x1024.size b4).emb (ix2 l c) = y at ey0 ey1
  rw [View.ld_unit_apply_of M _ _ b1 _ (ix3 ⟨(y 0).val / 256, by omega⟩ ⟨(y 0).val % 32, by omega⟩ (y 1)) (fun a => by
      match a with
      | ⟨0, _⟩ => show (y 0).val / 256 = k.val + 0; omega
      | ⟨1, _⟩ => show (y 0).val % 32 = 0 + (16 * e.val + l.val); omega
      | ⟨2, _⟩ => show (y 1).val = 0 + c.val; omega),
    View.ld_unit_apply_of Q _ _ b2 _ (ix3 ⟨(y 0).val / 256, by omega⟩ ⟨32 * ((y 0).val % 256 / 128) + (y 0).val % 32, by omega⟩ (y 1)) (fun a => by
      match a with
      | ⟨0, _⟩ => show (y 0).val / 256 = k.val + 0; omega
      | ⟨1, _⟩ => show 32 * ((y 0).val % 256 / 128) + (y 0).val % 32 = 32 * h.val + (16 * e.val + l.val); omega
      | ⟨2, _⟩ => show (y 1).val = 0 + c.val; omega),
    View.ld_unit_apply_of G _ _ b3 _ (ix3 ⟨(y 0).val % 256 / 16, by omega⟩ ⟨(y 0).val / 256, by omega⟩ (y 1)) (fun a => by
      match a with
      | ⟨0, _⟩ => show (y 0).val % 256 / 16 = 8 * h.val + 2 * j.val + e.val + 0; omega
      | ⟨1, _⟩ => show (y 0).val / 256 = k.val + 0; omega
      | ⟨2, _⟩ => show (y 1).val = 0 + c.val; omega)]
  have ej : (y 0).val % 128 / 32 = j.val := by omega
  have eh : (y 0).val % 256 / 128 = h.val := by omega
  unfold wVal
  simp only [ej, eh]

/-- Each band of a trip holds the panel's weights at its rows. -/
theorem tripBands_val (i : grid0.Coords) (h : k0_cond1 i = 1#1) (Q : Vec Ideal S28x64x1024 .i8) (M : Vec Ideal S28x32x1024 .i8) (G : Vec Ideal S16x28x1024 .f32)
    (k : Fin k0_t1_loop.trips) : ∀ p ∈ tripBands i h Q M G k, ∀ x, p.2 x = wVal Q M G (p.1.emb x) := by
  unfold tripBands
  simp only [List.forall_mem_cons]
  refine ⟨band_val Q M G k 1 3 1 _ _ _ _ _ _ _ _ _ _ _ _ (off4_eq k 15) (off1_eq k) (off12_eq k) (off20_eq k) rfl rfl rfl,
    band_val Q M G k 1 3 0 _ _ _ _ _ _ _ _ _ _ _ _ (off4_eq k 14) (off1_eq k) (off12_eq k) (off19_eq k) rfl rfl rfl,
    band_val Q M G k 1 2 1 _ _ _ _ _ _ _ _ _ _ _ _ (off4_eq k 13) (off1_eq k) (off12_eq k) (off18_eq k) rfl rfl rfl,
    band_val Q M G k 1 2 0 _ _ _ _ _ _ _ _ _ _ _ _ (off4_eq k 12) (off1_eq k) (off12_eq k) (off17_eq k) rfl rfl rfl,
    band_val Q M G k 1 1 1 _ _ _ _ _ _ _ _ _ _ _ _ (off4_eq k 11) (off1_eq k) (off12_eq k) (off16_eq k) rfl rfl rfl,
    band_val Q M G k 1 1 0 _ _ _ _ _ _ _ _ _ _ _ _ (off4_eq k 10) (off1_eq k) (off12_eq k) (off15_eq k) rfl rfl rfl,
    band_val Q M G k 1 0 1 _ _ _ _ _ _ _ _ _ _ _ _ (off4_eq k 9) (off1_eq k) (off12_eq k) (off14_eq k) rfl rfl rfl,
    band_val Q M G k 1 0 0 _ _ _ _ _ _ _ _ _ _ _ _ (off4_eq k 8) (off1_eq k) (off12_eq k) (off13_eq k) rfl rfl rfl,
    band_val Q M G k 0 3 1 _ _ _ _ _ _ _ _ _ _ _ _ (off4_eq k 7) (off1_eq k) (off2_eq k) (off11_eq k) rfl rfl rfl,
    band_val Q M G k 0 3 0 _ _ _ _ _ _ _ _ _ _ _ _ (off4_eq k 6) (off1_eq k) (off2_eq k) (off10_eq k) rfl rfl rfl,
    band_val Q M G k 0 2 1 _ _ _ _ _ _ _ _ _ _ _ _ (off4_eq k 5) (off1_eq k) (off2_eq k) (off9_eq k) rfl rfl rfl,
    band_val Q M G k 0 2 0 _ _ _ _ _ _ _ _ _ _ _ _ (off4_eq k 4) (off1_eq k) (off2_eq k) (off8_eq k) rfl rfl rfl,
    band_val Q M G k 0 1 1 _ _ _ _ _ _ _ _ _ _ _ _ (off4_eq k 3) (off1_eq k) (off2_eq k) (off7_eq k) rfl rfl rfl,
    band_val Q M G k 0 1 0 _ _ _ _ _ _ _ _ _ _ _ _ (off4_eq k 2) (off1_eq k) (off2_eq k) (off6_eq k) rfl rfl rfl,
    band_val Q M G k 0 0 1 _ _ _ _ _ _ _ _ _ _ _ _ (off4_eq k 1) (off1_eq k) (off2_eq k) (off5_eq k) rfl rfl rfl,
    band_val Q M G k 0 0 0 _ _ _ _ _ _ _ _ _ _ _ _ (off4_eq k 0) (off1_eq k) (off2_eq k) (off3_eq k) rfl rfl rfl,
    fun _ hp => absurd hp List.not_mem_nil⟩

end Cert.KernelIdeal.Gen

end
-- ==== Proof.KerScale.lean ====
/-
  The group scales: what the kernel's first point of a panel leaves in its scale buffer — for each of the sixteen groups of a
  block of 256 weights, the block's scale times the group's six-bit integer scale.
-/
module

public import proofs.«01_k».proof.Proof.Gen.KernelIdeal.Loops
public import proofs.«01_k».proof.Proof.Bits
public import Idealize.ShloMosaic.Lib.Pipeline.ValueKit
public import Idealize.ShloMosaic.Lib.Pipeline.ReadBack
public import Idealize.ShloMosaic.Lib.Pointwise

@[expose] public section

set_option maxRecDepth 16384
set_option maxHeartbeats 4000000

noncomputable section

namespace Cert.KernelIdeal.Gen

open Idealize.ShloMosaic Idealize.ShloMosaic.TcCoe Idealize.ShloMosaic.Tactic Cert.Quant
open Idealize.SL Idealize.SL.Sem

/-- The words of the first eight groups' nibbles: the low four bits. -/
def nib0 (s : Vec Ideal S1x28x1024 .i8) : IVec S28x1024 32 :=
  andi (extui 32 (shapeCast S28x1024 s shapeCasts_S1x28x1024_S28x1024 : IVec S28x1024 8) natLt_8_32) (broadcast S28x1024 15#32)

/-- The words of the last eight groups' nibbles: the high four bits. -/
def nib1 (s : Vec Ideal S1x28x1024 .i8) : IVec S28x1024 32 :=
  shrsi (extui 32 (shapeCast S28x1024 s shapeCasts_S1x28x1024_S28x1024 : IVec S28x1024 8) natLt_8_32) (broadcast S28x1024 4#32)

/-- One group's scales. -/
def gBand (d : Vec Ideal S28x1024 .f16) (lo : IVec S28x1024 32) (hi : Vec Ideal S1x28x1024 .i8) (a : BitVec 32) : FVec Ideal S1x28x1024 .f32 :=
  shapeCast S1x28x1024 (mulf (k0_pay39 (F := Ideal) d) (sitofp .f32 (subi (ori lo (shli (andi (shrsi
    (extui 32 (shapeCast S28x1024 hi shapeCasts_S1x28x1024_S28x1024 : IVec S28x1024 8) natLt_8_32) (broadcast S28x1024 a)) (broadcast S28x1024 3#32))
    (broadcast S28x1024 4#32))) (broadcast S28x1024 32#32)))) shapeCasts_S28x1024_S1x28x1024

/-- The scale of group `y 0` of block `y 1` at column `y 2`. -/
def gVal (S : S12x28x1024.Idx → BitVec 8) (D : S28x1024.Idx → EReal) (y : S16x28x1024.Idx) : EReal :=
  let i : ℕ := (y 0).val
  have hi : i < 16 := (y 0).isLt
  D (ix2 (y 1) (y 2)) * (((sv (S (ix3 ⟨i % 8, by omega⟩ (y 1) (y 2))) (S (ix3 ⟨8 + i % 4, by omega⟩ (y 1) (y 2))) i : ℤ) : ℝ) : EReal)

theorem gBand_at (d : Vec Ideal S28x1024 .f16) (lo : IVec S28x1024 32) (hi : Vec Ideal S1x28x1024 .i8) (a : BitVec 32) (n : Fin 28) (c : Fin 1024) :
    gBand d lo hi a (ix3 0 n c) = d (ix2 n c) * (((IntOp.subi (IntOp.ori (lo (ix2 n c)) (IntOp.shli .vector
      (IntOp.andi (IntOp.shrsi .vector ((hi (ix3 0 n c)).setWidth 32) a) 3#32) 4#32)) 32#32).toInt : ℝ) : EReal) := by
  pointwise [gBand, k0_pay39]
  rfl

theorem nib0_at (s : Vec Ideal S1x28x1024 .i8) (n : Fin 28) (c : Fin 1024) : nib0 s (ix2 n c) = IntOp.andi ((s (ix3 0 n c)).setWidth 32) 15#32 := by
  pointwise [nib0]

theorem nib1_at (s : Vec Ideal S1x28x1024 .i8) (n : Fin 28) (c : Fin 1024) : nib1 s (ix2 n c) = IntOp.shrsi .vector ((s (ix3 0 n c)).setWidth 32) 4#32 := by
  pointwise [nib1]

/-- One group's store holds its scales. -/
theorem group_val (S : Vec Ideal S12x28x1024 .i8) (D : Vec Ideal S28x1024 .f16) (i : Fin 16) (s : Fin 4) (o o' p : Fin 3 → ℕ) (bo bo' bp) (lo : IVec S28x1024 32)
    (hs : i.val / 4 = s.val) (eo : o = ![i.val, 0, 0]) (ep : p = ![8 + i.val % 4, 0, 0]) (eo' : o' = ![i.val % 8, 0, 0])
    (hlo : lo = if i.val / 8 = 0 then nib0 (View.ld S (Rect.unit (s := S12x28x1024) o' S1x28x1024.size bo'))
      else nib1 (View.ld S (Rect.unit (s := S12x28x1024) o' S1x28x1024.size bo'))) (x : S1x28x1024.Idx) :
    gBand D lo (View.ld S (Rect.unit (s := S12x28x1024) p S1x28x1024.size bp)) (BitVec.ofNat 32 (2 * s.val)) x
      = gVal S D ((Rect.unit (s := S16x28x1024) o S1x28x1024.size bo).emb x) := by
  subst eo ep eo'
  obtain ⟨z, n, c, rfl⟩ : ∃ z n c, x = ix3 z n c := ⟨x 0, x 1, x 2, by idx_vars x⟩
  obtain rfl : z = 0 := Subsingleton.elim _ _
  have ey : (Rect.unit (s := S16x28x1024) ![i.val, 0, 0] S1x28x1024.size bo).emb (ix3 0 n c) = ix3 i n c := by
    funext a; apply Fin.ext
    refine (Rect.idx_unit_val _ _ _ _ _).trans ?_
    fin_cases a <;> simp [ix3]
  rw [ey, gBand_at]
  have ehi : View.ld S (Rect.unit (s := S12x28x1024) ![8 + i.val % 4, 0, 0] S1x28x1024.size bp) (ix3 0 n c) = S (ix3 ⟨8 + i.val % 4, by omega⟩ n c) :=
    View.ld_unit_apply_of S _ _ bp _ _ (by intro a; fin_cases a <;> simp [ix3])
  have elo : View.ld S (Rect.unit (s := S12x28x1024) ![i.val % 8, 0, 0] S1x28x1024.size bo') (ix3 0 n c) = S (ix3 ⟨i.val % 8, by omega⟩ n c) :=
    View.ld_unit_apply_of S _ _ bo' _ _ (by intro a; fin_cases a <;> simp [ix3])
  rw [ehi, vector_sv (S (ix3 ⟨i.val % 8, by omega⟩ n c)) _ i.val s hs]
  · rfl
  · rw [hlo]
    have := i.isLt
    rcases (show i.val / 8 = 0 ∨ i.val / 8 = 1 by omega) with h | h
    · rw [if_pos h, h, nib0_at, elo, nib0_word]
    · rw [if_neg (by omega), h, nib1_at, elo, nib1_vector]

/-- The sixteen groups' stores, last first. -/
def gPieces (S : Vec Ideal S12x28x1024 .i8) (D : Vec Ideal S28x1024 .f16) : List (View.Piece (Elt Ideal) S16x28x1024 .f32) := [
  ⟨Rect.unit (s := S16x28x1024) ![15, 0, 0] S1x28x1024.size inb_S16x28x1024_S1x28x1024_15_0_0,
    gBand D (nib1 (View.ld S (Rect.unit (s := S12x28x1024) ![7, 0, 0] S1x28x1024.size inb_S12x28x1024_S1x28x1024_7_0_0)))
      (View.ld S (Rect.unit (s := S12x28x1024) ![11, 0, 0] S1x28x1024.size inb_S12x28x1024_S1x28x1024_11_0_0)) 6#32⟩,
  ⟨Rect.unit (s := S16x28x1024) ![14, 0, 0] S1x28x1024.size inb_S16x28x1024_S1x28x1024_14_0_0,
    gBand D (nib1 (View.ld S (Rect.unit (s := S12x28x1024) ![6, 0, 0] S1x28x1024.size inb_S12x28x1024_S1x28x1024_6_0_0)))
      (View.ld S (Rect.unit (s := S12x28x1024) ![10, 0, 0] S1x28x1024.size inb_S12x28x1024_S1x28x1024_10_0_0)) 6#32⟩,
  ⟨Rect.unit (s := S16x28x1024) ![13, 0, 0] S1x28x1024.size inb_S16x28x1024_S1x28x1024_13_0_0,
    gBand D (nib1 (View.ld S (Rect.unit (s := S12x28x1024) ![5, 0, 0] S1x28x1024.size inb_S12x28x1024_S1x28x1024_5_0_0)))
      (View.ld S (Rect.unit (s := S12x28x1024) ![9, 0, 0] S1x28x1024.size inb_S12x28x1024_S1x28x1024_9_0_0)) 6#32⟩,
  ⟨Rect.unit (s := S16x28x1024) ![12, 0, 0] S1x28x1024.size inb_S16x28x1024_S1x28x1024_12_0_0,
    gBand D (nib1 (View.ld S (Rect.unit (s := S12x28x1024) ![4, 0, 0] S1x28x1024.size inb_S12x28x1024_S1x28x1024_4_0_0)))
      (View.ld S (Rect.unit (s := S12x28x1024) ![8, 0, 0] S1x28x1024.size inb_S12x28x1024_S1x28x1024_8_0_0)) 6#32⟩,
  ⟨Rect.unit (s := S16x28x1024) ![11, 0, 0] S1x28x1024.size inb_S16x28x1024_S1x28x1024_11_0_0,
    gBand D (nib1 (View.ld S (Rect.unit (s := S12x28x1024) ![3, 0, 0] S1x28x1024.size inb_S12x28x1024_S1x28x1024_3_0_0)))
      (View.ld S (Rect.unit (s := S12x28x1024) ![11, 0, 0] S1x28x1024.size inb_S12x28x1024_S1x28x1024_11_0_0)) 4#32⟩,
  ⟨Rect.unit (s := S16x28x1024) ![10, 0, 0] S1x28x1024.size inb_S16x28x1024_S1x28x1024_10_0_0,
    gBand D (nib1 (View.ld S (Rect.unit (s := S12x28x1024) ![2, 0, 0] S1x28x1024.size inb_S12x28x1024_S1x28x1024_2_0_0)))
      (View.ld S (Rect.unit (s := S12x28x1024) ![10, 0, 0] S1x28x1024.size inb_S12x28x1024_S1x28x1024_10_0_0)) 4#32⟩,
  ⟨Rect.unit (s := S16x28x1024) ![9, 0, 0] S1x28x1024.size inb_S16x28x1024_S1x28x1024_9_0_0,
    gBand D (nib1 (View.ld S (Rect.unit (s := S12x28x1024) ![1, 0, 0] S1x28x1024.size inb_S12x28x1024_S1x28x1024_1_0_0)))
      (View.ld S (Rect.unit (s := S12x28x1024) ![9, 0, 0] S1x28x1024.size inb_S12x28x1024_S1x28x1024_9_0_0)) 4#32⟩,
  ⟨Rect.unit (s := S16x28x1024) ![8, 0, 0] S1x28x1024.size inb_S16x28x1024_S1x28x1024_8_0_0,
    gBand D (nib1 (View.ld S (Rect.unit (s := S12x28x1024) ![0, 0, 0] S1x28x1024.size inb_S12x28x1024_S1x28x1024_0_0_0)))
      (View.ld S (Rect.unit (s := S12x28x1024) ![8, 0, 0] S1x28x1024.size inb_S12x28x1024_S1x28x1024_8_0_0)) 4#32⟩,
  ⟨Rect.unit (s := S16x28x1024) ![7, 0, 0] S1x28x1024.size inb_S16x28x1024_S1x28x1024_7_0_0,
    gBand D (nib0 (View.ld S (Rect.unit (s := S12x28x1024) ![7, 0, 0] S1x28x1024.size inb_S12x28x1024_S1x28x1024_7_0_0)))
      (View.ld S (Rect.unit (s := S12x28x1024) ![11, 0, 0] S1x28x1024.size inb_S12x28x1024_S1x28x1024_11_0_0)) 2#32⟩,
  ⟨Rect.unit (s := S16x28x1024) ![6, 0, 0] S1x28x1024.size inb_S16x28x1024_S1x28x1024_6_0_0,
    gBand D (nib0 (View.ld S (Rect.unit (s := S12x28x1024) ![6, 0, 0] S1x28x1024.size inb_S12x28x1024_S1x28x1024_6_0_0)))
      (View.ld S (Rect.unit (s := S12x28x1024) ![10, 0, 0] S1x28x1024.size inb_S12x28x1024_S1x28x1024_10_0_0)) 2#32⟩,
  ⟨Rect.unit (s := S16x28x1024) ![5, 0, 0] S1x28x1024.size inb_S16x28x1024_S1x28x1024_5_0_0,
    gBand D (nib0 (View.ld S (Rect.unit (s := S12x28x1024) ![5, 0, 0] S1x28x1024.size inb_S12x28x1024_S1x28x1024_5_0_0)))
      (View.ld S (Rect.unit (s := S12x28x1024) ![9, 0, 0] S1x28x1024.size inb_S12x28x1024_S1x28x1024_9_0_0)) 2#32⟩,
  ⟨Rect.unit (s := S16x28x1024) ![4, 0, 0] S1x28x1024.size inb_S16x28x1024_S1x28x1024_4_0_0,
    gBand D (nib0 (View.ld S (Rect.unit (s := S12x28x1024) ![4, 0, 0] S1x28x1024.size inb_S12x28x1024_S1x28x1024_4_0_0)))
      (View.ld S (Rect.unit (s := S12x28x1024) ![8, 0, 0] S1x28x1024.size inb_S12x28x1024_S1x28x1024_8_0_0)) 2#32⟩,
  ⟨Rect.unit (s := S16x28x1024) ![3, 0, 0] S1x28x1024.size inb_S16x28x1024_S1x28x1024_3_0_0,
    gBand D (nib0 (View.ld S (Rect.unit (s := S12x28x1024) ![3, 0, 0] S1x28x1024.size inb_S12x28x1024_S1x28x1024_3_0_0)))
      (View.ld S (Rect.unit (s := S12x28x1024) ![11, 0, 0] S1x28x1024.size inb_S12x28x1024_S1x28x1024_11_0_0)) 0#32⟩,
  ⟨Rect.unit (s := S16x28x1024) ![2, 0, 0] S1x28x1024.size inb_S16x28x1024_S1x28x1024_2_0_0,
    gBand D (nib0 (View.ld S (Rect.unit (s := S12x28x1024) ![2, 0, 0] S1x28x1024.size inb_S12x28x1024_S1x28x1024_2_0_0)))
      (View.ld S (Rect.unit (s := S12x28x1024) ![10, 0, 0] S1x28x1024.size inb_S12x28x1024_S1x28x1024_10_0_0)) 0#32⟩,
  ⟨Rect.unit (s := S16x28x1024) ![1, 0, 0] S1x28x1024.size inb_S16x28x1024_S1x28x1024_1_0_0,
    gBand D (nib0 (View.ld S (Rect.unit (s := S12x28x1024) ![1, 0, 0] S1x28x1024.size inb_S12x28x1024_S1x28x1024_1_0_0)))
      (View.ld S (Rect.unit (s := S12x28x1024) ![9, 0, 0] S1x28x1024.size inb_S12x28x1024_S1x28x1024_9_0_0)) 0#32⟩,
  ⟨Rect.unit (s := S16x28x1024) ![0, 0, 0] S1x28x1024.size inb_S16x28x1024_S1x28x1024_0_0_0,
    gBand D (nib0 (View.ld S (Rect.unit (s := S12x28x1024) ![0, 0, 0] S1x28x1024.size inb_S12x28x1024_S1x28x1024_0_0_0)))
      (View.ld S (Rect.unit (s := S12x28x1024) ![8, 0, 0] S1x28x1024.size inb_S12x28x1024_S1x28x1024_8_0_0)) 0#32⟩]

/-- Each of them holds its group's scales. -/
theorem gPieces_val (S : Vec Ideal S12x28x1024 .i8) (D : Vec Ideal S28x1024 .f16) : ∀ p ∈ gPieces S D, ∀ x, p.2 x = gVal S D (p.1.emb x) := by
  unfold gPieces
  simp only [List.forall_mem_cons]
  refine ⟨group_val S D 15 3 _ _ _ _ _ _ _ rfl rfl rfl rfl rfl,
    group_val S D 14 3 _ _ _ _ _ _ _ rfl rfl rfl rfl rfl,
    group_val S D 13 3 _ _ _ _ _ _ _ rfl rfl rfl rfl rfl,
    group_val S D 12 3 _ _ _ _ _ _ _ rfl rfl rfl rfl rfl,
    group_val S D 11 2 _ _ _ _ _ _ _ rfl rfl rfl rfl rfl,
    group_val S D 10 2 _ _ _ _ _ _ _ rfl rfl rfl rfl rfl,
    group_val S D 9 2 _ _ _ _ _ _ _ rfl rfl rfl rfl rfl,
    group_val S D 8 2 _ _ _ _ _ _ _ rfl rfl rfl rfl rfl,
    group_val S D 7 1 _ _ _ _ _ _ _ rfl rfl rfl rfl rfl,
    group_val S D 6 1 _ _ _ _ _ _ _ rfl rfl rfl rfl rfl,
    group_val S D 5 1 _ _ _ _ _ _ _ rfl rfl rfl rfl rfl,
    group_val S D 4 1 _ _ _ _ _ _ _ rfl rfl rfl rfl rfl,
    group_val S D 3 0 _ _ _ _ _ _ _ rfl rfl rfl rfl rfl,
    group_val S D 2 0 _ _ _ _ _ _ _ rfl rfl rfl rfl rfl,
    group_val S D 1 0 _ _ _ _ _ _ _ rfl rfl rfl rfl rfl,
    group_val S D 0 0 _ _ _ _ _ _ _ rfl rfl rfl rfl rfl,
    fun _ hp => absurd hp List.not_mem_nil⟩

/-- So they leave the scales in the whole buffer. -/
theorem gPieces_canon (S : Vec Ideal S12x28x1024 .i8) (D : Vec Ideal S28x1024 .f16) : View.canon (gPieces S D) = gVal S D := by
  funext y
  refine View.canon_eq_of_allAt _ y _ (View.cover_of_tiled (gPieces S D) S1x28x1024.size (by rfl) y) ?_
  intro p hp x hx
  rw [gPieces_val S D p hp x, hx]

end Cert.KernelIdeal.Gen

end
-- ==== Proof.KerPanel.lean ====
/-
  The panel: after its loop, the kernel's first point of a panel has the panel's weights in the carried buffer.
-/
module

public import proofs.«01_k».proof.Proof.Gen.KernelIdeal.Frame
public import proofs.«01_k».proof.Proof.KerTrip
public import proofs.«01_k».proof.Proof.KerScale

@[expose] public section

set_option maxRecDepth 16384
set_option maxHeartbeats 400000

noncomputable section

namespace Cert.KernelIdeal.Gen

open Idealize.ShloMosaic Idealize.ShloMosaic.TcCoe Idealize.ShloMosaic.Tactic Cert.Quant
open Idealize.SL Idealize.SL.Sem

/-- All the stores of the trips so far hold the panel's weights at their rows. -/
theorem pb_val (𝒱 : Variants) (c : Dev nD) (bd : Option 𝒱.V) (i : grid0.Coords) (arg2 : Memref sig .tc .vmem S512x7168 .i8) (harg2 : arg2.IsWhole) (arg3 : Memref sig .tc .vmem S1x28x512 .f32) (harg3 : arg3.IsWhole) (arg4 : Memref sig .tc .vmem S28x64x1024 .i8) (harg4 : arg4.IsWhole) (arg5 : Memref sig .tc .vmem S28x32x1024 .i8) (harg5 : arg5.IsWhole) (arg6 : Memref sig .tc .vmem S12x28x1024 .i8) (harg6 : arg6.IsWhole) (arg7 : Memref sig .tc .vmem S28x1024 .f16) (harg7 : arg7.IsWhole) (arg8 : Memref sig .tc .vmem S512x1024 .bf16) (harg8 : arg8.IsWhole) (arg9 : Memref sig .tc .vmem S16x28x1024 .f32) (harg9 : arg9.IsWhole) (arg10 : Memref sig .tc .vmem S7168x1024 .bf16) (harg10 : arg10.IsWhole) (arg11 : Memref sig .tc .vmem S512x7168 .bf16) (harg11 : arg11.IsWhole) (k0_h1 : k0_cond1 i = 1#1) (c0_i32_300 : BitVec 32)
    (X_arg4 : BufTy.Contents (Elt Ideal) arg4.view.ty) (X_arg5 : BufTy.Contents (Elt Ideal) arg5.view.ty) (X_arg9 : BufTy.Contents (Elt Ideal) arg9.view.ty) :
    ∀ n ≤ k0_t1_loop.trips, ∀ p ∈ pb_k0_t1 (F := Ideal) 𝒱 c bd i arg2 harg2 arg3 harg3 arg4 harg4 arg5 harg5 arg6 harg6 arg7 harg7 arg8 harg8 arg9 harg9 arg10 harg10 arg11 harg11 k0_h1 c0_i32_300 X_arg4 X_arg5 X_arg9 n,
      ∀ x, p.2 x = wVal (arg4.view.read (Elt Ideal) X_arg4) (arg5.view.read (Elt Ideal) X_arg5) (arg9.view.read (Elt Ideal) X_arg9) (p.1.emb x)
  | 0, _ => fun p hp => absurd hp List.not_mem_nil
  | n + 1, hn => by
    intro p hp
    have e := pb_k0_t1_succ (F := Ideal) 𝒱 c bd i arg2 harg2 arg3 harg3 arg4 harg4 arg5 harg5 arg6 harg6 arg7 harg7 arg8 harg8 arg9 harg9 arg10 harg10 arg11 harg11 k0_h1 c0_i32_300 X_arg4 X_arg5 X_arg9 ⟨n, hn⟩
    rw [show n + 1 = (⟨n, hn⟩ : Fin k0_t1_loop.trips).val + 1 from rfl, e, tripL_eq, List.mem_append] at hp
    rcases hp with hp | hp
    · exact tripBands_val i k0_h1 _ _ _ ⟨n, hn⟩ p hp
    · exact pb_val 𝒱 c bd i arg2 harg2 arg3 harg3 arg4 harg4 arg5 harg5 arg6 harg6 arg7 harg7 arg8 harg8 arg9 harg9 arg10 harg10 arg11 harg11 k0_h1 c0_i32_300 X_arg4 X_arg5 X_arg9 n (Nat.le_of_succ_le hn) p hp

/-- What the first point of a panel leaves in the carried buffer: the panel's weights. -/
theorem sout0_A_1_eq (c : Dev nD) (i : grid0.Coords) (arg2 : Memref sig .tc .vmem S512x7168 .i8) (harg2 : arg2.IsWhole) (arg3 : Memref sig .tc .vmem S1x28x512 .f32) (harg3 : arg3.IsWhole) (arg4 : Memref sig .tc .vmem S28x64x1024 .i8) (harg4 : arg4.IsWhole) (arg5 : Memref sig .tc .vmem S28x32x1024 .i8) (harg5 : arg5.IsWhole) (arg6 : Memref sig .tc .vmem S12x28x1024 .i8) (harg6 : arg6.IsWhole) (arg7 : Memref sig .tc .vmem S28x1024 .f16) (harg7 : arg7.IsWhole) (arg8 : Memref sig .tc .vmem S512x1024 .bf16) (harg8 : arg8.IsWhole) (arg9 : Memref sig .tc .vmem S16x28x1024 .f32) (harg9 : arg9.IsWhole) (arg10 : Memref sig .tc .vmem S7168x1024 .bf16) (harg10 : arg10.IsWhole) (arg11 : Memref sig .tc .vmem S512x7168 .bf16) (harg11 : arg11.IsWhole) (hc0 : cond0_0 i)
    (x0 : Vec Ideal S512x7168 .i8) (x1 : Vec Ideal S1x28x512 .f32) (x2 : Vec Ideal S28x64x1024 .i8) (x3 : Vec Ideal S28x32x1024 .i8) (x4 : Vec Ideal S12x28x1024 .i8) (x5 : Vec Ideal S28x1024 .f16) :
    sout0_A_1 (F := Ideal) c i arg2 harg2 arg3 harg3 arg4 harg4 arg5 harg5 arg6 harg6 arg7 harg7 arg8 harg8 arg9 harg9 arg10 harg10 arg11 harg11 hc0 x0 x1 x2 x3 x4 x5 = wVal x2 x3 (gVal x4 x5) := by
  funext y
  have hcov := scover0_A_1 (F := Ideal) c i arg2 harg2 arg3 harg3 arg4 harg4 arg5 harg5 arg6 harg6 arg7 harg7 arg8 harg8 arg9 harg9 arg10 harg10 arg11 harg11 hc0 x0 x1 x2 x3 x4 x5 y
  unfold sout0_A_1
  rw [View.read_writes_junk_eq_canon]
  refine View.canon_eq_of_allAt _ y _ hcov ?_
  clear hcov
  intro p hp x hx
  frame_open at hp
  have h1 := pb_val _ _ _ _ arg2 harg2 arg3 harg3 arg4 harg4 arg5 harg5 arg6 harg6 arg7 harg7 arg8 harg8 arg9 harg9 arg10 harg10 arg11 harg11 _ _ _ _ _ _ (Nat.le_refl k0_t1_loop.trips) p hp x
  rw [hx, Memref.IsWhole.read_unread, Memref.IsWhole.read_unread, View.read_writes_junk_eq_canon] at h1
  rw [h1]
  refine congrFun (congrArg (wVal x2 x3) ?_) y
  rw [← gPieces_canon]
  refine congrArg View.canon ?_
  simp only [gPieces]
  simp only [View.readAt_eq_ld, Memref.IsWhole.read_unread]
  have eD : View.ld x5 (Rect.unit (s := S28x1024) ![0, 0] S28x1024.size inb_S28x1024_S28x1024_0_0) = x5 := View.ld_unit_lit' _ x5 (by intro a; fin_cases a <;> rfl)
  rw [eD]
  clear h1
  rfl

end Cert.KernelIdeal.Gen

end
-- ==== Proof.KerAct.lean ====
/-
  The activations: every point puts its block of activations, each times its block's scale, in a buffer of its own and multiplies it
  by the panel's weights.
-/
module

public import proofs.«01_k».proof.Proof.Gen.KernelIdeal.Frame
public import proofs.«01_k».proof.Proof.KerPanel
public import Idealize.ShloMosaic.Lib.Pointwise

@[expose] public section

set_option maxRecDepth 16384
set_option maxHeartbeats 400000

noncomputable section

namespace Cert.KernelIdeal.Gen

open Idealize.ShloMosaic Idealize.ShloMosaic.TcCoe Idealize.ShloMosaic.Tactic Cert.Quant
open Idealize.SL Idealize.SL.Sem

/-- One store: 256 columns of activations, times one column of scales. -/
def aBand (s : FVec Ideal S512x128 .bf16) (v : Vec Ideal S512x256 .i8) (o : Fin 2 → ℕ) (ho : S512x128.Slices o S512x1) : FVec Ideal S512x256 .bf16 :=
  shapeCast S512x256 (mulf (sitofp (F := Ideal) .bf16 (shapeCast S512x256 v shapeCasts_S512x256_S512x256 : IVec S512x256 8))
    (broadcastTo S512x256 (extractStridedSlice S512x1 o s ho) broadcasts_S512x1_S512x256)) shapeCasts_S512x256_S512x256

/-- The scaled activation at row `y 0` and column `y 1`. -/
def xVal (X : S512x7168.Idx → BitVec 8) (S : S1x28x512.Idx → EReal) (y : S512x7168.Idx) : EReal :=
  have hk : (y 1).val < 7168 := (y 1).isLt
  (((X y).toInt : ℝ) : EReal) * S (ix3 0 ⟨(y 1).val / 256, by omega⟩ (y 0))

theorem scales_at (v : Vec Ideal S1x28x512 .f32) (r : Fin 512) (n : Fin 28) : k0_pay70 v (ix2 r ⟨n.val, by omega⟩) = v (ix3 0 n r) := by
  pointwise [k0_pay70]

theorem aBand_at (s : FVec Ideal S512x128 .bf16) (v : Vec Ideal S512x256 .i8) (n : Fin 28) (o : Fin 2 → ℕ) (ho : S512x128.Slices o S512x1)
    (e : o = ![0, n.val]) (r : Fin 512) (k : Fin 256) :
    aBand s v o ho (ix2 r k) = (((v (ix2 r k)).toInt : ℝ) : EReal) * s (ix2 r ⟨n.val, by omega⟩) := by
  subst e
  pointwise [aBand]
  rfl

/-- One store holds the scaled activations at its columns. -/
theorem act_val (X : Vec Ideal S512x7168 .i8) (S : Vec Ideal S1x28x512 .f32) (n : Fin 28) (o p : Fin 2 → ℕ) (ho bp bp')
    (eo : o = ![0, n.val]) (ep : p = ![0, 256 * n.val]) (x : S512x256.Idx) :
    aBand (k0_pay70 S) (View.ld X (Rect.unit (s := S512x7168) p S512x256.size bp)) o ho x
      = xVal X S ((Rect.unit (s := S512x7168) p S512x256.size bp').emb x) := by
  subst ep
  obtain ⟨r, k, rfl⟩ : ∃ r k, x = ix2 r k := ⟨x 0, x 1, by idx_vars x⟩
  have ey : (Rect.unit (s := S512x7168) ![0, 256 * n.val] S512x256.size bp').emb (ix2 r k) = ix2 r ⟨256 * n.val + k.val, by omega⟩ := by
    funext a; apply Fin.ext
    refine (Rect.idx_unit_val _ _ _ _ _).trans ?_
    fin_cases a <;> simp [ix2]
  have el : View.ld X (Rect.unit (s := S512x7168) ![0, 256 * n.val] S512x256.size bp) (ix2 r k) = X (ix2 r ⟨256 * n.val + k.val, by omega⟩) :=
    View.ld_unit_apply_of X _ _ bp _ _ (by intro a; fin_cases a <;> simp [ix2])
  rw [ey, aBand_at _ _ n _ _ eo, el, scales_at]
  have en : (256 * n.val + k.val) / 256 = n.val := by omega
  show _ = _ * S (ix3 0 ⟨(256 * n.val + k.val) / 256, _⟩ r)
  simp only [en]

/-- The 28 stores, last first. -/
def aPieces (X : Vec Ideal S512x7168 .i8) (S : Vec Ideal S1x28x512 .f32) : List (View.Piece (Elt Ideal) S512x7168 .bf16) := [
  ⟨Rect.unit (s := S512x7168) ![0, 6912] S512x256.size inb_S512x7168_S512x256_0_6912,
    aBand (k0_pay70 S) (View.ld X (Rect.unit (s := S512x7168) ![0, 6912] S512x256.size inb_S512x7168_S512x256_0_6912)) ![0, 27] slices_S512x128_o0_27_S512x1⟩,
  ⟨Rect.unit (s := S512x7168) ![0, 6656] S512x256.size inb_S512x7168_S512x256_0_6656,
    aBand (k0_pay70 S) (View.ld X (Rect.unit (s := S512x7168) ![0, 6656] S512x256.size inb_S512x7168_S512x256_0_6656)) ![0, 26] slices_S512x128_o0_26_S512x1⟩,
  ⟨Rect.unit (s := S512x7168) ![0, 6400] S512x256.size inb_S512x7168_S512x256_0_6400,
    aBand (k0_pay70 S) (View.ld X (Rect.unit (s := S512x7168) ![0, 6400] S512x256.size inb_S512x7168_S512x256_0_6400)) ![0, 25] slices_S512x128_o0_25_S512x1⟩,
  ⟨Rect.unit (s := S512x7168) ![0, 6144] S512x256.size inb_S512x7168_S512x256_0_6144,
    aBand (k0_pay70 S) (View.ld X (Rect.unit (s := S512x7168) ![0, 6144] S512x256.size inb_S512x7168_S512x256_0_6144)) ![0, 24] slices_S512x128_o0_24_S512x1⟩,
  ⟨Rect.unit (s := S512x7168) ![0, 5888] S512x256.size inb_S512x7168_S512x256_0_5888,
    aBand (k0_pay70 S) (View.ld X (Rect.unit (s := S512x7168) ![0, 5888] S512x256.size inb_S512x7168_S512x256_0_5888)) ![0, 23] slices_S512x128_o0_23_S512x1⟩,
  ⟨Rect.unit (s := S512x7168) ![0, 5632] S512x256.size inb_S512x7168_S512x256_0_5632,
    aBand (k0_pay70 S) (View.ld X (Rect.unit (s := S512x7168) ![0, 5632] S512x256.size inb_S512x7168_S512x256_0_5632)) ![0, 22] slices_S512x128_o0_22_S512x1⟩,
  ⟨Rect.unit (s := S512x7168) ![0, 5376] S512x256.size inb_S512x7168_S512x256_0_5376,
    aBand (k0_pay70 S) (View.ld X (Rect.unit (s := S512x7168) ![0, 5376] S512x256.size inb_S512x7168_S512x256_0_5376)) ![0, 21] slices_S512x128_o0_21_S512x1⟩,
  ⟨Rect.unit (s := S512x7168) ![0, 5120] S512x256.size inb_S512x7168_S512x256_0_5120,
    aBand (k0_pay70 S) (View.ld X (Rect.unit (s := S512x7168) ![0, 5120] S512x256.size inb_S512x7168_S512x256_0_5120)) ![0, 20] slices_S512x128_o0_20_S512x1⟩,
  ⟨Rect.unit (s := S512x7168) ![0, 4864] S512x256.size inb_S512x7168_S512x256_0_4864,
    aBand (k0_pay70 S) (View.ld X (Rect.unit (s := S512x7168) ![0, 4864] S512x256.size inb_S512x7168_S512x256_0_4864)) ![0, 19] slices_S512x128_o0_19_S512x1⟩,
  ⟨Rect.unit (s := S512x7168) ![0, 4608] S512x256.size inb_S512x7168_S512x256_0_4608,
    aBand (k0_pay70 S) (View.ld X (Rect.unit (s := S512x7168) ![0, 4608] S512x256.size inb_S512x7168_S512x256_0_4608)) ![0, 18] slices_S512x128_o0_18_S512x1⟩,
  ⟨Rect.unit (s := S512x7168) ![0, 4352] S512x256.size inb_S512x7168_S512x256_0_4352,
    aBand (k0_pay70 S) (View.ld X (Rect.unit (s := S512x7168) ![0, 4352] S512x256.size inb_S512x7168_S512x256_0_4352)) ![0, 17] slices_S512x128_o0_17_S512x1⟩,
  ⟨Rect.unit (s := S512x7168) ![0, 4096] S512x256.size inb_S512x7168_S512x256_0_4096,
    aBand (k0_pay70 S) (View.ld X (Rect.unit (s := S512x7168) ![0, 4096] S512x256.size inb_S512x7168_S512x256_0_4096)) ![0, 16] slices_S512x128_o0_16_S512x1⟩,
  ⟨Rect.unit (s := S512x7168) ![0, 3840] S512x256.size inb_S512x7168_S512x256_0_3840,
    aBand (k0_pay70 S) (View.ld X (Rect.unit (s := S512x7168) ![0, 3840] S512x256.size inb_S512x7168_S512x256_0_3840)) ![0, 15] slices_S512x128_o0_15_S512x1⟩,
  ⟨Rect.unit (s := S512x7168) ![0, 3584] S512x256.size inb_S512x7168_S512x256_0_3584,
    aBand (k0_pay70 S) (View.ld X (Rect.unit (s := S512x7168) ![0, 3584] S512x256.size inb_S512x7168_S512x256_0_3584)) ![0, 14] slices_S512x128_o0_14_S512x1⟩,
  ⟨Rect.unit (s := S512x7168) ![0, 3328] S512x256.size inb_S512x7168_S512x256_0_3328,
    aBand (k0_pay70 S) (View.ld X (Rect.unit (s := S512x7168) ![0, 3328] S512x256.size inb_S512x7168_S512x256_0_3328)) ![0, 13] slices_S512x128_o0_13_S512x1⟩,
  ⟨Rect.unit (s := S512x7168) ![0, 3072] S512x256.size inb_S512x7168_S512x256_0_3072,
    aBand (k0_pay70 S) (View.ld X (Rect.unit (s := S512x7168) ![0, 3072] S512x256.size inb_S512x7168_S512x256_0_3072)) ![0, 12] slices_S512x128_o0_12_S512x1⟩,
  ⟨Rect.unit (s := S512x7168) ![0, 2816] S512x256.size inb_S512x7168_S512x256_0_2816,
    aBand (k0_pay70 S) (View.ld X (Rect.unit (s := S512x7168) ![0, 2816] S512x256.size inb_S512x7168_S512x256_0_2816)) ![0, 11] slices_S512x128_o0_11_S512x1⟩,
  ⟨Rect.unit (s := S512x7168) ![0, 2560] S512x256.size inb_S512x7168_S512x256_0_2560,
    aBand (k0_pay70 S) (View.ld X (Rect.unit (s := S512x7168) ![0, 2560] S512x256.size inb_S512x7168_S512x256_0_2560)) ![0, 10] slices_S512x128_o0_10_S512x1⟩,
  ⟨Rect.unit (s := S512x7168) ![0, 2304] S512x256.size inb_S512x7168_S512x256_0_2304,
    aBand (k0_pay70 S) (View.ld X (Rect.unit (s := S512x7168) ![0, 2304] S512x256.size inb_S512x7168_S512x256_0_2304)) ![0, 9] slices_S512x128_o0_9_S512x1⟩,
  ⟨Rect.unit (s := S512x7168) ![0, 2048] S512x256.size inb_S512x7168_S512x256_0_2048,
    aBand (k0_pay70 S) (View.ld X (Rect.unit (s := S512x7168) ![0, 2048] S512x256.size inb_S512x7168_S512x256_0_2048)) ![0, 8] slices_S512x128_o0_8_S512x1⟩,
  ⟨Rect.unit (s := S512x7168) ![0, 1792] S512x256.size inb_S512x7168_S512x256_0_1792,
    aBand (k0_pay70 S) (View.ld X (Rect.unit (s := S512x7168) ![0, 1792] S512x256.size inb_S512x7168_S512x256_0_1792)) ![0, 7] slices_S512x128_o0_7_S512x1⟩,
  ⟨Rect.unit (s := S512x7168) ![0, 1536] S512x256.size inb_S512x7168_S512x256_0_1536,
    aBand (k0_pay70 S) (View.ld X (Rect.unit (s := S512x7168) ![0, 1536] S512x256.size inb_S512x7168_S512x256_0_1536)) ![0, 6] slices_S512x128_o0_6_S512x1⟩,
  ⟨Rect.unit (s := S512x7168) ![0, 1280] S512x256.size inb_S512x7168_S512x256_0_1280,
    aBand (k0_pay70 S) (View.ld X (Rect.unit (s := S512x7168) ![0, 1280] S512x256.size inb_S512x7168_S512x256_0_1280)) ![0, 5] slices_S512x128_o0_5_S512x1⟩,
  ⟨Rect.unit (s := S512x7168) ![0, 1024] S512x256.size inb_S512x7168_S512x256_0_1024,
    aBand (k0_pay70 S) (View.ld X (Rect.unit (s := S512x7168) ![0, 1024] S512x256.size inb_S512x7168_S512x256_0_1024)) ![0, 4] slices_S512x128_o0_4_S512x1⟩,
  ⟨Rect.unit (s := S512x7168) ![0, 768] S512x256.size inb_S512x7168_S512x256_0_768,
    aBand (k0_pay70 S) (View.ld X (Rect.unit (s := S512x7168) ![0, 768] S512x256.size inb_S512x7168_S512x256_0_768)) ![0, 3] slices_S512x128_o0_3_S512x1⟩,
  ⟨Rect.unit (s := S512x7168) ![0, 512] S512x256.size inb_S512x7168_S512x256_0_512,
    aBand (k0_pay70 S) (View.ld X (Rect.unit (s := S512x7168) ![0, 512] S512x256.size inb_S512x7168_S512x256_0_512)) ![0, 2] slices_S512x128_o0_2_S512x1⟩,
  ⟨Rect.unit (s := S512x7168) ![0, 256] S512x256.size inb_S512x7168_S512x256_0_256,
    aBand (k0_pay70 S) (View.ld X (Rect.unit (s := S512x7168) ![0, 256] S512x256.size inb_S512x7168_S512x256_0_256)) ![0, 1] slices_S512x128_o0_1_S512x1⟩,
  ⟨Rect.unit (s := S512x7168) ![0, 0] S512x256.size inb_S512x7168_S512x256_0_0,
    aBand (k0_pay70 S) (View.ld X (Rect.unit (s := S512x7168) ![0, 0] S512x256.size inb_S512x7168_S512x256_0_0)) ![0, 0] slices_S512x128_o0_0_S512x1⟩]

/-- Each of them holds the scaled activations at its columns. -/
theorem aPieces_val (X : Vec Ideal S512x7168 .i8) (S : Vec Ideal S1x28x512 .f32) : ∀ p ∈ aPieces X S, ∀ x, p.2 x = xVal X S (p.1.emb x) := by
  unfold aPieces
  simp only [List.forall_mem_cons]
  refine ⟨act_val X S 27 _ _ _ _ _ rfl rfl,
    act_val X S 26 _ _ _ _ _ rfl rfl,
    act_val X S 25 _ _ _ _ _ rfl rfl,
    act_val X S 24 _ _ _ _ _ rfl rfl,
    act_val X S 23 _ _ _ _ _ rfl rfl,
    act_val X S 22 _ _ _ _ _ rfl rfl,
    act_val X S 21 _ _ _ _ _ rfl rfl,
    act_val X S 20 _ _ _ _ _ rfl rfl,
    act_val X S 19 _ _ _ _ _ rfl rfl,
    act_val X S 18 _ _ _ _ _ rfl rfl,
    act_val X S 17 _ _ _ _ _ rfl rfl,
    act_val X S 16 _ _ _ _ _ rfl rfl,
    act_val X S 15 _ _ _ _ _ rfl rfl,
    act_val X S 14 _ _ _ _ _ rfl rfl,
    act_val X S 13 _ _ _ _ _ rfl rfl,
    act_val X S 12 _ _ _ _ _ rfl rfl,
    act_val X S 11 _ _ _ _ _ rfl rfl,
    act_val X S 10 _ _ _ _ _ rfl rfl,
    act_val X S 9 _ _ _ _ _ rfl rfl,
    act_val X S 8 _ _ _ _ _ rfl rfl,
    act_val X S 7 _ _ _ _ _ rfl rfl,
    act_val X S 6 _ _ _ _ _ rfl rfl,
    act_val X S 5 _ _ _ _ _ rfl rfl,
    act_val X S 4 _ _ _ _ _ rfl rfl,
    act_val X S 3 _ _ _ _ _ rfl rfl,
    act_val X S 2 _ _ _ _ _ rfl rfl,
    act_val X S 1 _ _ _ _ _ rfl rfl,
    act_val X S 0 _ _ _ _ _ rfl rfl,
    fun _ hp => absurd hp List.not_mem_nil⟩

/-- So they leave the scaled activations in the whole buffer. -/
theorem aPieces_canon (X : Vec Ideal S512x7168 .i8) (S : Vec Ideal S1x28x512 .f32) : View.canon (aPieces X S) = xVal X S := by
  funext y
  refine View.canon_eq_of_allAt _ y _ (View.cover_of_tiled (aPieces X S) S512x256.size (by rfl) y) ?_
  intro p hp x hx
  rw [aPieces_val X S p hp x, hx]

/-- The product of the two, at one row and column. -/
theorem product_at (A : Vec Ideal S512x7168 .bf16) (W : Vec Ideal S7168x1024 .bf16) (r : Fin 512) (o : Fin 1024) :
    k0_pay104 (F := Ideal) A W (ix2 r o) = ∑ k : Fin 7168, A (ix2 r k) * W (ix2 k o) := by
  pointwise [k0_pay104]

/-- What a later point of a panel writes: the scaled activations times the carried weights. -/
theorem out0_B_6_eq (c : Dev nD) (i : grid0.Coords) (arg2 : Memref sig .tc .vmem S512x7168 .i8) (harg2 : arg2.IsWhole) (arg3 : Memref sig .tc .vmem S1x28x512 .f32) (harg3 : arg3.IsWhole) (arg4 : Memref sig .tc .vmem S28x64x1024 .i8) (harg4 : arg4.IsWhole) (arg5 : Memref sig .tc .vmem S28x32x1024 .i8) (harg5 : arg5.IsWhole) (arg6 : Memref sig .tc .vmem S12x28x1024 .i8) (harg6 : arg6.IsWhole) (arg7 : Memref sig .tc .vmem S28x1024 .f16) (harg7 : arg7.IsWhole) (arg8 : Memref sig .tc .vmem S512x1024 .bf16) (harg8 : arg8.IsWhole) (arg9 : Memref sig .tc .vmem S16x28x1024 .f32) (harg9 : arg9.IsWhole) (arg10 : Memref sig .tc .vmem S7168x1024 .bf16) (harg10 : arg10.IsWhole) (arg11 : Memref sig .tc .vmem S512x7168 .bf16) (harg11 : arg11.IsWhole) (hc0 : ¬cond0_0 i)
    (x0 : Vec Ideal S512x7168 .i8) (x1 : Vec Ideal S1x28x512 .f32) (x2 : Vec Ideal S28x64x1024 .i8) (x3 : Vec Ideal S28x32x1024 .i8) (x4 : Vec Ideal S12x28x1024 .i8) (x5 : Vec Ideal S28x1024 .f16) (xs1 : Vec Ideal S7168x1024 .bf16) :
    out0_B_6 (F := Ideal) c i arg2 harg2 arg3 harg3 arg4 harg4 arg5 harg5 arg6 harg6 arg7 harg7 arg8 harg8 arg9 harg9 arg10 harg10 arg11 harg11 hc0 x0 x1 x2 x3 x4 x5 xs1 = k0_pay104 (F := Ideal) (xVal x0 x1) xs1 := by
  funext y
  frame_open
  rw [View.read_writes_junk_eq_canon, View.canon_cons_unit_lit' _ _ _ (by intro a; fin_cases a <;> rfl)]
  simp only [View.readCov_eq_canon', View.readAt_eq_ld, Memref.IsWhole.read_unread]
  have e3 : View.ld x1 (Rect.unit (s := S1x28x512) ![0, 0, 0] S1x28x512.size inb_S1x28x512_S1x28x512_0_0_0) = x1 := View.ld_unit_lit' _ x1 (by intro a; fin_cases a <;> rfl)
  have e10 : View.ld xs1 (Rect.unit (s := S7168x1024) ![0, 0] S7168x1024.size inb_S7168x1024_S7168x1024_0_0) = xs1 := View.ld_unit_lit' _ xs1 (by intro a; fin_cases a <;> rfl)
  rw [e3, e10]
  refine congrFun (congrArg (fun A => k0_pay104 (F := Ideal) A xs1) ?_) y
  rw [← aPieces_canon]
  exact View.ld_unit_lit' inb_S512x7168_S512x7168_0_0 (View.canon (aPieces x0 x1)) (by intro a; fin_cases a <;> rfl)

/-- What the first point of a panel writes: the same, with the weights it has just left in the carried buffer. -/
theorem out0_A_6_eq (c : Dev nD) (i : grid0.Coords) (arg2 : Memref sig .tc .vmem S512x7168 .i8) (harg2 : arg2.IsWhole) (arg3 : Memref sig .tc .vmem S1x28x512 .f32) (harg3 : arg3.IsWhole) (arg4 : Memref sig .tc .vmem S28x64x1024 .i8) (harg4 : arg4.IsWhole) (arg5 : Memref sig .tc .vmem S28x32x1024 .i8) (harg5 : arg5.IsWhole) (arg6 : Memref sig .tc .vmem S12x28x1024 .i8) (harg6 : arg6.IsWhole) (arg7 : Memref sig .tc .vmem S28x1024 .f16) (harg7 : arg7.IsWhole) (arg8 : Memref sig .tc .vmem S512x1024 .bf16) (harg8 : arg8.IsWhole) (arg9 : Memref sig .tc .vmem S16x28x1024 .f32) (harg9 : arg9.IsWhole) (arg10 : Memref sig .tc .vmem S7168x1024 .bf16) (harg10 : arg10.IsWhole) (arg11 : Memref sig .tc .vmem S512x7168 .bf16) (harg11 : arg11.IsWhole) (hc0 : cond0_0 i)
    (x0 : Vec Ideal S512x7168 .i8) (x1 : Vec Ideal S1x28x512 .f32) (x2 : Vec Ideal S28x64x1024 .i8) (x3 : Vec Ideal S28x32x1024 .i8) (x4 : Vec Ideal S12x28x1024 .i8) (x5 : Vec Ideal S28x1024 .f16) :
    out0_A_6 (F := Ideal) c i arg2 harg2 arg3 harg3 arg4 harg4 arg5 harg5 arg6 harg6 arg7 harg7 arg8 harg8 arg9 harg9 arg10 harg10 arg11 harg11 hc0 x0 x1 x2 x3 x4 x5 = k0_pay104 (F := Ideal) (xVal x0 x1) (wVal x2 x3 (gVal x4 x5)) := by
  funext y
  have hw := sout0_A_1_eq c i arg2 harg2 arg3 harg3 arg4 harg4 arg5 harg5 arg6 harg6 arg7 harg7 arg8 harg8 arg9 harg9 arg10 harg10 arg11 harg11 hc0 x0 x1 x2 x3 x4 x5
  unfold sout0_A_1 at hw
  rw [View.read_writes_junk_eq_canon] at hw
  rw [← hw]
  frame_open
  rw [View.read_writes_junk_eq_canon, View.canon_cons_unit_lit' _ _ _ (by intro a; fin_cases a <;> rfl)]
  simp only [View.readCov_eq_canon']
  refine congrFun (congrArg₂ (fun A W => k0_pay104 (F := Ideal) A W) ?_ ?_) y
  · simp only [View.readAt_eq_ld, Memref.IsWhole.read_unread]
    have e3 : View.ld x1 (Rect.unit (s := S1x28x512) ![0, 0, 0] S1x28x512.size inb_S1x28x512_S1x28x512_0_0_0) = x1 := View.ld_unit_lit' _ x1 (by intro a; fin_cases a <;> rfl)
    rw [e3, ← aPieces_canon]
    exact View.ld_unit_lit' inb_S512x7168_S512x7168_0_0 (View.canon (aPieces x0 x1)) (by intro a; fin_cases a <;> rfl)
  · exact View.ld_unit_lit' inb_S7168x1024_S7168x1024_0_0 (View.canon _) (by intro a; fin_cases a <;> rfl)

end Cert.KernelIdeal.Gen

end
-- ==== Proof.KerBlocks.lean ====
/-
  The blocks: what each grid point's blocks hold of the kernel's arguments. Point `t` works on rows `512 (t % 24) …` of the
  activations and on columns `1024 (t / 24) …` of the weights.
-/
module

public import proofs.«01_k».proof.Proof.Gen.KernelIdeal.Value
public import Idealize.ShloMosaic.Lib.Pipeline.ValueKit
public import Idealize.ShloMosaic.Lib.Pointwise

@[expose] public section

set_option maxRecDepth 16384
set_option maxHeartbeats 400000

noncomputable section

namespace Cert.KernelIdeal.Gen

open Cert.KernelIdeal Idealize.ShloMosaic Idealize.ShloMosaic.TcCoe Idealize.ShloMosaic.Tactic
open Idealize.SL Idealize.SL.Sem

theorem idx0 : ∀ t : Fin grid0.N, win0_0.index t = ![t.val % 24, 0] := by decide +kernel
theorem idx1 : ∀ t : Fin grid0.N, win0_1.index t = ![t.val % 24 / 8, 0, t.val % 24 % 8] := by decide +kernel
theorem idx2 : ∀ t : Fin grid0.N, win0_2.index t = ![0, 0, t.val / 24] := by decide +kernel
theorem idx3 : ∀ t : Fin grid0.N, win0_3.index t = ![0, 0, t.val / 24] := by decide +kernel
theorem idx4 : ∀ t : Fin grid0.N, win0_4.index t = ![0, 0, t.val / 24] := by decide +kernel
theorem idx5 : ∀ t : Fin grid0.N, win0_5.index t = ![0, t.val / 24] := by decide +kernel

theorem pts (t : Fin cfg0.N) : t.val < 432 := lt_of_lt_of_eq t.isLt N_0

variable (m : (ℓ : Loc nD τ sig) → Buf (Elt Ideal) ℓ) (c : Dev nD) (t : Fin cfg0.N)

/-- The block of the eight-bit activations. -/
theorem blk0 (r : Fin 512) (k : Fin 7168) (b : Fin 3) (s : Fin 4096) (e : t.val % 24 * 512 + r.val = 4096 * b.val + s.val) :
    iblk m c 0 t (ix2 r k) = m ((c : Thread nD τ).loc main_arg0) (ix3 b s k) := by
  blk_ext! [iblk, V, idx0 t]

/-- The block of the activations' scales. -/
theorem blk1 (n : Fin 28) (r : Fin 512) (b : Fin 3) (s : Fin 4096) (e : t.val % 24 * 512 + r.val = 4096 * b.val + s.val) :
    iblk m c 1 t (ix3 0 n r) = m ((c : Thread nD τ).loc main_arg1) (ix3 b s n) := by
  blk_ext! [iblk, V, idx1 t]

/-- The block of the weights' low bits. -/
theorem blk2 (n : Fin 28) (a : Fin 64) (o : Fin 1024) :
    iblk m c 2 t (ix3 n a o) = m ((c : Thread nD τ).loc main_arg3) (ix3 ⟨1024 * (t.val / 24) + o.val, by have := pts t; omega⟩ n a) := by
  blk_ext! [iblk, V, idx2 t]

/-- The block of the weights' high bits. -/
theorem blk3 (n : Fin 28) (a : Fin 32) (o : Fin 1024) :
    iblk m c 3 t (ix3 n a o) = m ((c : Thread nD τ).loc main_arg2) (ix3 ⟨1024 * (t.val / 24) + o.val, by have := pts t; omega⟩ n a) := by
  blk_ext! [iblk, V, idx3 t]

/-- The block of the packed six-bit scales. -/
theorem blk4 (i : Fin 12) (n : Fin 28) (o : Fin 1024) :
    iblk m c 4 t (ix3 i n o) = m ((c : Thread nD τ).loc main_arg4) (ix3 ⟨1024 * (t.val / 24) + o.val, by have := pts t; omega⟩ n i) := by
  blk_ext! [iblk, V, idx4 t]

/-- The block of the blocks' scales. -/
theorem blk5 (n : Fin 28) (o : Fin 1024) :
    iblk m c 5 t (ix2 n o) = m ((c : Thread nD τ).loc main_arg5) (ix2 ⟨1024 * (t.val / 24) + o.val, by have := pts t; omega⟩ n) := by
  blk_ext! [iblk, V, idx5 t]

end Cert.KernelIdeal.Gen

end
-- ==== Proof.Spec.lean ====
/-
  The mathematics of the layer, as a function of its six arguments: every output is the sum, over the 7168 inputs, of the scaled
  activation times the dequantised weight.
-/
module

public import proofs.«01_k».proof.Proof.Bits
public import Idealize.ShloMosaic.Lib.Pointwise

@[expose] public section

noncomputable section

namespace Cert.Quant

open Idealize.ShloMosaic

/-- The dequantised weight of input `k` and output `o`: block `k / 256`, in it half `k % 256 / 128`, quarter `k % 128 / 32` of the
    half and place `k % 32`; `q` the bytes of low bits, `h` of high bits, `s` of group scales, `d` the blocks' scales. -/
def wt (q : Fin 18432 → Fin 28 → Fin 64 → BitVec 8) (h : Fin 18432 → Fin 28 → Fin 32 → BitVec 8) (s : Fin 18432 → Fin 28 → Fin 12 → BitVec 8)
    (d : Fin 18432 → Fin 28 → EReal) (k : Fin 7168) (o : Fin 18432) : EReal :=
  let n : Fin 28 := ⟨k.val / 256, by omega⟩
  (((qv (q o n ⟨32 * (k.val % 256 / 128) + k.val % 32, by omega⟩) (h o n ⟨k.val % 32, by omega⟩) (2 * (k.val % 128 / 32))
      (4 * (k.val % 256 / 128) + k.val % 128 / 32) : ℤ) : ℝ) : EReal)
    * (d o n * (((sv (s o n ⟨k.val % 256 / 16 % 8, by omega⟩) (s o n ⟨8 + k.val % 256 / 16 % 4, by omega⟩) (k.val % 256 / 16) : ℤ) : ℝ) : EReal))

/-- The scaled activation of token `(b, r)` and input `k`. -/
def act (x : Fin 3 → Fin 4096 → Fin 7168 → BitVec 8) (e : Fin 3 → Fin 4096 → Fin 28 → EReal) (b : Fin 3) (r : Fin 4096) (k : Fin 7168) : EReal :=
  (((x b r k).toInt : ℝ) : EReal) * e b r ⟨k.val / 256, by omega⟩

end Cert.Quant

end
-- ==== Proof.KerArray.lean ====
/-
  The kernel's result: what its output array holds after the run, in its arguments.
-/
module

public import proofs.«01_k».proof.Proof.Gen.KernelIdeal.Value
public import proofs.«01_k».proof.Proof.KerAct
public import proofs.«01_k».proof.Proof.KerBlocks
public import proofs.«01_k».proof.Proof.Spec

@[expose] public section

set_option maxRecDepth 16384
set_option maxHeartbeats 400000

noncomputable section

namespace Cert.KernelIdeal.Gen

open Cert.KernelIdeal Idealize.ShloMosaic Idealize.ShloMosaic.TcCoe Idealize.ShloMosaic.Tactic Cert.Quant
open Idealize.SL Idealize.SL.Sem

variable (m : (ℓ : Loc nD τ sig) → Buf (Elt Ideal) ℓ) (c : Dev nD)

/-- The arguments, by coordinates. -/
def argX (b : Fin 3) (r : Fin 4096) (k : Fin 7168) : BitVec 8 := m ((c : Thread nD τ).loc main_arg0) (ix3 b r k)
def argE (b : Fin 3) (r : Fin 4096) (n : Fin 28) : EReal := m ((c : Thread nD τ).loc main_arg1) (ix3 b r n)
def argH (o : Fin 18432) (n : Fin 28) (a : Fin 32) : BitVec 8 := m ((c : Thread nD τ).loc main_arg2) (ix3 o n a)
def argQ (o : Fin 18432) (n : Fin 28) (a : Fin 64) : BitVec 8 := m ((c : Thread nD τ).loc main_arg3) (ix3 o n a)
def argS (o : Fin 18432) (n : Fin 28) (a : Fin 12) : BitVec 8 := m ((c : Thread nD τ).loc main_arg4) (ix3 o n a)
def argD (o : Fin 18432) (n : Fin 28) : EReal := m ((c : Thread nD τ).loc main_arg5) (ix2 o n)

/-- The panel's weights, in the arguments. -/
theorem panel_at (t : Fin cfg0.N) (k : Fin 7168) (o : Fin 1024) :
    wVal (iblk m c 2 t) (iblk m c 3 t) (gVal (iblk m c 4 t) (iblk m c 5 t)) (ix2 k o)
      = wt (argQ m c) (argH m c) (argS m c) (argD m c) k ⟨1024 * (t.val / 24) + o.val, by have := pts t; omega⟩ := by
  have e2 := blk2 m c t ⟨k.val / 256, by omega⟩ ⟨32 * (k.val % 256 / 128) + k.val % 32, by omega⟩ o
  have e3 := blk3 m c t ⟨k.val / 256, by omega⟩ ⟨k.val % 32, by omega⟩ o
  have e4 := blk4 m c t ⟨k.val % 256 / 16 % 8, by omega⟩ ⟨k.val / 256, by omega⟩ o
  have e4' := blk4 m c t ⟨8 + k.val % 256 / 16 % 4, by omega⟩ ⟨k.val / 256, by omega⟩ o
  have e5 := blk5 m c t ⟨k.val / 256, by omega⟩ o
  unfold wt argQ argH argS argD
  dsimp only
  rw [← e2, ← e3, ← e4, ← e4', ← e5]
  rfl

/-- After every point the carried buffer holds its panel's weights. -/
theorem carried (n : ℕ) : ∀ (hn : n < cfg0.N) (k : Fin 7168) (o : Fin 1024),
    (outsAt0 m c n hn).2 (ix2 k o) = wt (argQ m c) (argH m c) (argS m c) (argD m c) k ⟨1024 * (n / 24) + o.val, by have := pts ⟨n, hn⟩; simp only at this; omega⟩ := by
  induction n with
  | zero =>
    intro hn k o
    rw [outsAt0_A m c ⟨0, hn⟩ (Nat.zero_mod _), sout0_A_1_eq]
    exact panel_at m c ⟨0, hn⟩ k o
  | succ n ih =>
    intro hn k o
    by_cases h0 : (n + 1) % 24 = 0
    · rw [outsAt0_A m c ⟨n + 1, hn⟩ h0, sout0_A_1_eq]
      exact panel_at m c ⟨n + 1, hn⟩ k o
    · rw [outsAt0_B m c ⟨n + 1, hn⟩ h0]
      refine (ih (Nat.lt_of_succ_lt hn) k o).trans ?_
      have e : n / 24 = (n + 1) / 24 := by omega
      simp only [e]

/-- What a point writes, in the arguments. -/
theorem written (t : Fin cfg0.N) (r : Fin 512) (o : Fin 1024) (b : Fin 3) (s : Fin 4096) (e : t.val % 24 * 512 + r.val = 4096 * b.val + s.val) :
    (outsAt0 m c t.val t.isLt).1 (ix2 r o)
      = ∑ k : Fin 7168, act (argX m c) (argE m c) b s k
          * wt (argQ m c) (argH m c) (argS m c) (argD m c) k ⟨1024 * (t.val / 24) + o.val, by have := pts t; omega⟩ := by
  have hx : ∀ k : Fin 7168, xVal (iblk m c 0 t) (iblk m c 1 t) (ix2 r k) = act (argX m c) (argE m c) b s k := by
    intro k
    have e0 := blk0 m c t r k b s e
    have e1 := blk1 m c t ⟨k.val / 256, by omega⟩ r b s e
    unfold act argX argE
    rw [← e0, ← e1]
    rfl
  by_cases h0 : t.val % 24 = 0
  · rw [outsAt0_A m c t h0, out0_A_6_eq]
    refine (product_at _ _ r o).trans ?_
    exact Finset.sum_congr rfl fun k _ => by rw [hx, panel_at]
  · rw [outsAt0_B m c t h0, out0_B_6_eq]
    refine (product_at _ _ r o).trans ?_
    refine Finset.sum_congr rfl fun k _ => ?_
    rw [hx, carried]
    have e : (t.val - 1) / 24 = t.val / 24 := by omega
    simp only [e]

/-- The output array after the run. -/
theorem result_at (R : Fin 12288) (o : Fin 18432) :
    Value.G6 m c (ix2 R o)
      = ∑ k : Fin 7168, act (argX m c) (argE m c) ⟨R.val / 4096, by omega⟩ ⟨R.val % 4096, by omega⟩ k
          * wt (argQ m c) (argH m c) (argS m c) (argD m c) k o := by
  have hp : Value.pt6Of (ix2 R o) = R.val / 512 + 24 * (o.val / 1024) := by
    show 1 * (R.val / 512 - 0) + 24 * (o.val / 1024 - 0) = _
    omega
  have hN : cfg0.N = 432 := N_0
  have hlt : Value.pt6Of (ix2 R o) < cfg0.N := by rw [hp, hN]; omega
  unfold Value.G6
  rw [dif_pos hlt, ← Value.outsAt0_sweep m c _ hlt]
  have hl : Value.loc6Of (ix2 R o) = ix2 (⟨R.val % 512, by omega⟩ : Fin 512) (⟨o.val % 1024, by omega⟩ : Fin 1024) := by
    funext a
    fin_cases a <;> rfl
  rw [hl]
  refine (written m c ⟨_, hlt⟩ _ _ ⟨R.val / 4096, by omega⟩ ⟨R.val % 4096, by omega⟩ (by simp only [hp]; omega)).trans ?_
  have ho : 1024 * (Value.pt6Of (ix2 R o) / 24) + o.val % 1024 = o.val := by rw [hp]; omega
  simp only [ho]

end Cert.KernelIdeal.Gen

end
-- ==== Proof.RefAt.lean ====
/-
  The reference's host lines read at an index, over the extended reals: the eight partial products, added, are the sum over all
  inputs of the scaled activation times the dequantised weight.
-/
module

public import proofs.«01_k».proof.Proof.RefHost
public import proofs.«01_k».proof.Proof.Spec
public import Idealize.ShloMosaic.Lib.Pointwise

@[expose] public section

set_option maxRecDepth 16384
set_option maxHeartbeats 400000

noncomputable section

namespace Cert.ReferenceIdeal.Gen

open Idealize.ShloMosaic Idealize.ShloMosaic.TcCoe Cert.Quant

theorem hostX_at (x : Vec Ideal S3x4096x7168 .bf16) (s : Vec Ideal S3x4096x28 .f32) (b : Fin 3) (r : Fin 4096) (n : Fin 28) (h : Fin 2) (j : Fin 4) (l : Fin 32) :
    hostX x s (ix6 b r n h j l) = x (ix3 b r ⟨n.val * 256 + (h.val * 128 + j.val * 32 + l.val), by omega⟩) * s (ix3 b r n) := by
  pointwise [hostX]

theorem hostQ_at (q : Vec Ideal S18432x28x64 .i8) (o : Fin 18432) (n : Fin 28) (h : Fin 2) (l : Fin 32) :
    hostQ (F := Ideal) q (ix4 o n h l) = (q (ix3 o n ⟨h.val * 32 + l.val, by omega⟩)).setWidth 32 := by
  pointwise [hostQ]

theorem hostPart_at (h : Fin 2) (j : Fin 4) (oq : Fin 4 → ℕ) (og : Fin 5 → ℕ) (ox : Fin 6 → ℕ)
    (hq : S18432x28x2x32.Slices oq S18432x28x1x32) (hg : S18432x28x2x4x2.Slices og S18432x28x1x1x2)
    (hx : S3x4096x28x2x4x32.Slices ox S3x4096x28x1x1x32) (a b : BitVec 32)
    (eq : oq = ![0, 0, h.val, 0]) (eg : og = ![0, 0, h.val, j.val, 0]) (ex : ox = ![0, 0, 0, h.val, j.val, 0])
    (x : Vec Ideal S3x4096x28x2x4x32 .bf16) (g : Vec Ideal S18432x28x2x4x2 .bf16) (q : Vec Ideal S18432x28x2x32 .i32)
    (w : Vec Ideal S18432x28x32 .i32) (i : Fin 3) (r : Fin 4096) (o : Fin 18432) :
    hostPart oq og ox hq hg hx a b x g q w (ix3 i r o)
      = ∑ l : Fin 32, ∑ n : Fin 28, x (ix6 i r n h j l)
          * ((((IntOp.subi (IntOp.addi (IntOp.andi (IntOp.shrsi .host (q (ix4 o n h l)) a) 3#32)
              (IntOp.muli 4#32 (IntOp.andi (IntOp.shrsi .host (w (ix3 o n l)) b) 1#32))) 4#32).toInt : ℝ) : EReal) * g (ix5 o n h j ⟨l.val / 16, by omega⟩)) := by
  subst eq eg ex
  pointwise [hostPart]
  rfl

theorem hostLo_at (w : Vec Ideal S18432x28x12 .i32) (o : Fin 18432) (n : Fin 28) (i : Fin 16) :
    hostLo (F := Ideal) w (ix3 o n i) = if i.val / 8 < 1 then IntOp.andi (w (ix3 o n ⟨i.val % 8, by omega⟩)) 15#32
      else IntOp.shrsi .host (w (ix3 o n ⟨i.val % 8, by omega⟩)) 4#32 := by
  pointwise [hostLo]
  split_ifs <;> rfl

theorem hostHi_at (w : Vec Ideal S18432x28x12 .i32) (o : Fin 18432) (n : Fin 28) (i : Fin 16) :
    hostHi (F := Ideal) w (ix3 o n i)
      = IntOp.andi (IntOp.shrsi .host (w (ix3 o n ⟨8 + i.val % 4, by omega⟩)) (IntOp.muli 2#32 (BitVec.ofNat 32 (i.val / 4)))) 3#32 := by
  pointwise [hostHi]

theorem hostG_at (d : Vec Ideal S18432x28 .f32) (w : Vec Ideal S18432x28x12 .i8) (o : Fin 18432) (n : Fin 28) (h : Fin 2) (j : Fin 4) (e : Fin 2) :
    hostG d w (ix5 o n h j e)
      = d (ix2 o n) * (((sv (w (ix3 o n ⟨(h.val * 8 + j.val * 2 + e.val) % 8, by omega⟩)) (w (ix3 o n ⟨8 + (h.val * 8 + j.val * 2 + e.val) % 4, by omega⟩))
          (h.val * 8 + j.val * 2 + e.val) : ℤ) : ℝ) : EReal) := by
  pointwise [hostG]
  rw [hostLo_at, hostHi_at]
  refine congrArg (d (ix2 o n) * ·) (congrArg (fun z : ℤ => ((z : ℝ) : EReal)) ?_)
  refine host_sv (w (ix3 o n ⟨(h.val * 8 + j.val * 2 + e.val) % 8, by omega⟩)) (w (ix3 o n ⟨8 + (h.val * 8 + j.val * 2 + e.val) % 4, by omega⟩))
    (h.val * 8 + j.val * 2 + e.val) (by omega) _ ?_
  split_ifs with hlt
  · rw [show (h.val * 8 + j.val * 2 + e.val) / 8 = 0 by simp only at hlt; omega]
    exact nib0_word _
  · rw [show (h.val * 8 + j.val * 2 + e.val) / 8 = 1 by simp only at hlt; omega]
    exact nib1_host _

/-- The sum over the inputs of half `h` and bit pair `j`. -/
def partSum (X : Vec Ideal S3x4096x7168 .i8) (s : Vec Ideal S3x4096x28 .f32) (hm : Vec Ideal S18432x28x32 .i8) (qs : Vec Ideal S18432x28x64 .i8)
    (sc : Vec Ideal S18432x28x12 .i8) (d : Vec Ideal S18432x28 .f32) (i : Fin 3) (r : Fin 4096) (o : Fin 18432) (h : Fin 2) (j : Fin 4) : EReal :=
  ∑ l : Fin 32, ∑ n : Fin 28, act (fun b r k => X (ix3 b r k)) (fun b r n => s (ix3 b r n)) i r
        ⟨n.val * 256 + (h.val * 128 + j.val * 32 + l.val), by omega⟩
      * wt (fun o n a => qs (ix3 o n a)) (fun o n a => hm (ix3 o n a)) (fun o n a => sc (ix3 o n a)) (fun o n => d (ix2 o n))
        ⟨n.val * 256 + (h.val * 128 + j.val * 32 + l.val), by omega⟩ o

/-- One partial product, in the mathematics: half `h`, bit pair `j`, place `l`, block `n`. -/
theorem part_at (h : Fin 2) (j : Fin 4) (oq : Fin 4 → ℕ) (og : Fin 5 → ℕ) (ox : Fin 6 → ℕ)
    (hq : S18432x28x2x32.Slices oq S18432x28x1x32) (hg : S18432x28x2x4x2.Slices og S18432x28x1x1x2)
    (hx : S3x4096x28x2x4x32.Slices ox S3x4096x28x1x1x32) (a b : BitVec 32)
    (eq : oq = ![0, 0, h.val, 0]) (eg : og = ![0, 0, h.val, j.val, 0]) (ex : ox = ![0, 0, 0, h.val, j.val, 0])
    (ea : a = BitVec.ofNat 32 (2 * j.val)) (eb : b = BitVec.ofNat 32 (4 * h.val + j.val))
    (X : Vec Ideal S3x4096x7168 .i8) (s : Vec Ideal S3x4096x28 .f32) (hm : Vec Ideal S18432x28x32 .i8) (qs : Vec Ideal S18432x28x64 .i8)
    (sc : Vec Ideal S18432x28x12 .i8) (d : Vec Ideal S18432x28 .f32) (i : Fin 3) (r : Fin 4096) (o : Fin 18432) :
    hostPart oq og ox hq hg hx a b (hostX (sitofp (F := Ideal) .bf16 X) s) (hostG d sc) (hostQ (F := Ideal) qs) (extui 32 hm natLt_8_32 : Vec Ideal S18432x28x32 .i32) (ix3 i r o)
      = partSum X s hm qs sc d i r o h j := by
  unfold partSum
  rw [hostPart_at h j oq og ox hq hg hx a b eq eg ex]
  refine Finset.sum_congr rfl fun l _ => Finset.sum_congr rfl fun n _ => ?_
  have e1 : (n.val * 256 + (h.val * 128 + j.val * 32 + l.val)) / 256 = n.val := by omega
  have e2 : (n.val * 256 + (h.val * 128 + j.val * 32 + l.val)) % 256 / 128 = h.val := by omega
  have e3 : (n.val * 256 + (h.val * 128 + j.val * 32 + l.val)) % 128 / 32 = j.val := by omega
  have e4 : (n.val * 256 + (h.val * 128 + j.val * 32 + l.val)) % 32 = l.val := by omega
  have e5 : (n.val * 256 + (h.val * 128 + j.val * 32 + l.val)) % 256 / 16 = h.val * 8 + j.val * 2 + l.val / 16 := by omega
  have e6 : h.val * 32 + l.val = 32 * h.val + l.val := by omega
  rw [hostX_at, hostQ_at, hostG_at, ea, eb]
  have ew := host_qv (qs (ix3 o n ⟨h.val * 32 + l.val, by omega⟩)) (hm (ix3 o n l)) j ⟨4 * h.val + j.val, by omega⟩
  have ew' : (IntOp.subi (IntOp.addi (IntOp.andi (IntOp.shrsi .host ((qs (ix3 o n ⟨h.val * 32 + l.val, by omega⟩)).setWidth 32) (BitVec.ofNat 32 (2 * j.val))) 3#32)
      (IntOp.muli 4#32 (IntOp.andi (IntOp.shrsi .host ((extui 32 hm natLt_8_32 : Vec Ideal S18432x28x32 .i32) (ix3 o n l)) (BitVec.ofNat 32 (4 * h.val + j.val))) 1#32))) 4#32).toInt
      = qv (qs (ix3 o n ⟨h.val * 32 + l.val, by omega⟩)) (hm (ix3 o n l)) (2 * j.val) (4 * h.val + j.val) := ew
  rw [ew']
  unfold act wt
  dsimp only
  simp only [e1, e2, e3, e4, e5, e6]
  rfl

/-- The inputs, block by block: `k = 256 n + 128 h + 32 j + l`. -/
def inputs : Fin 2 × Fin 4 × Fin 32 × Fin 28 ≃ Fin 7168 where
  toFun p := ⟨p.2.2.2.val * 256 + (p.1.val * 128 + p.2.1.val * 32 + p.2.2.1.val), by omega⟩
  invFun k := (⟨k.val % 256 / 128, by omega⟩, ⟨k.val % 128 / 32, by omega⟩, ⟨k.val % 32, by omega⟩, ⟨k.val / 256, by omega⟩)
  left_inv p := by
    obtain ⟨h, j, l, n⟩ := p
    refine Prod.ext (Fin.ext ?_) (Prod.ext (Fin.ext ?_) (Prod.ext (Fin.ext ?_) (Fin.ext ?_))) <;> simp only <;> omega
  right_inv k := by
    apply Fin.ext
    simp only
    omega

theorem sum_inputs (f : Fin 7168 → EReal) :
    ∑ k, f k = ∑ h : Fin 2, ∑ j : Fin 4, ∑ l : Fin 32, ∑ n : Fin 28, f ⟨n.val * 256 + (h.val * 128 + j.val * 32 + l.val), by omega⟩ := by
  rw [← Equiv.sum_comp inputs f]
  simp only [Fintype.sum_prod_type]
  rfl

theorem sum_halves (g : Fin 2 → Fin 4 → EReal) :
    ∑ h, ∑ j, g h j = g 0 0 + g 0 1 + g 0 2 + g 0 3 + g 1 0 + g 1 1 + g 1 2 + g 1 3 := by
  simp only [Fin.sum_univ_two, Fin.sum_univ_four]
  simp only [add_assoc]

/-- The reference's result. -/
theorem hostY_at (X : Vec Ideal S3x4096x7168 .i8) (s : Vec Ideal S3x4096x28 .f32) (hm : Vec Ideal S18432x28x32 .i8) (qs : Vec Ideal S18432x28x64 .i8)
    (sc : Vec Ideal S18432x28x12 .i8) (d : Vec Ideal S18432x28 .f32) (R : Fin 12288) (o : Fin 18432) :
    hostY (sitofp (F := Ideal) .bf16 X) s hm qs sc d (ix2 R o)
      = ∑ k : Fin 7168, act (fun b r k => X (ix3 b r k)) (fun b r n => s (ix3 b r n)) ⟨R.val / 4096, by omega⟩ ⟨R.val % 4096, by omega⟩ k
          * wt (fun o n a => qs (ix3 o n a)) (fun o n a => hm (ix3 o n a)) (fun o n a => sc (ix3 o n a)) (fun o n => d (ix2 o n)) k o := by
  rw [sum_inputs]
  refine Eq.trans ?_ (sum_halves (partSum X s hm qs sc d ⟨R.val / 4096, by omega⟩ ⟨R.val % 4096, by omega⟩ o)).symm
  pointwise [hostY]
  rw [part_at 0 0 ![0, 0, 0, 0] ![0, 0, 0, 0, 0] ![0, 0, 0, 0, 0, 0] _ _ _ 0#32 0#32 rfl rfl rfl rfl rfl,
    part_at 0 1 ![0, 0, 0, 0] ![0, 0, 0, 1, 0] ![0, 0, 0, 0, 1, 0] _ _ _ 2#32 1#32 rfl rfl rfl rfl rfl,
    part_at 0 2 ![0, 0, 0, 0] ![0, 0, 0, 2, 0] ![0, 0, 0, 0, 2, 0] _ _ _ 4#32 2#32 rfl rfl rfl rfl rfl,
    part_at 0 3 ![0, 0, 0, 0] ![0, 0, 0, 3, 0] ![0, 0, 0, 0, 3, 0] _ _ _ 6#32 3#32 rfl rfl rfl rfl rfl,
    part_at 1 0 ![0, 0, 1, 0] ![0, 0, 1, 0, 0] ![0, 0, 0, 1, 0, 0] _ _ _ 0#32 4#32 rfl rfl rfl rfl rfl,
    part_at 1 1 ![0, 0, 1, 0] ![0, 0, 1, 1, 0] ![0, 0, 0, 1, 1, 0] _ _ _ 2#32 5#32 rfl rfl rfl rfl rfl,
    part_at 1 2 ![0, 0, 1, 0] ![0, 0, 1, 2, 0] ![0, 0, 0, 1, 2, 0] _ _ _ 4#32 6#32 rfl rfl rfl rfl rfl,
    part_at 1 3 ![0, 0, 1, 0] ![0, 0, 1, 3, 0] ![0, 0, 0, 1, 3, 0] _ _ _ 6#32 7#32 rfl rfl rfl rfl rfl]

end Cert.ReferenceIdeal.Gen

end
-- ==== Proof.Agree.lean ====
/-
  The idealized kernel and the idealized reference compute the same array from the same arguments.
-/
module

public import proofs.«01_k».proof.Proof.KerArray
public import proofs.«01_k».proof.Proof.RefAt

@[expose] public section

noncomputable section

namespace Cert.Quant

open Idealize.ShloMosaic Idealize.ShloMosaic.TcCoe

/-- Both results are, at every row and output, the sum over all inputs of activation times weight. -/
theorem agree (m : (ℓ : Loc Cert.KernelIdeal.nD Cert.KernelIdeal.τ Cert.KernelIdeal.sig) → Buf (Elt Ideal) ℓ) (c : Dev Cert.KernelIdeal.nD) :
    Cert.ReferenceIdeal.Gen.hostY (sitofp (F := Ideal) .bf16 (m ((c : Thread Cert.KernelIdeal.nD Cert.KernelIdeal.τ).loc Cert.KernelIdeal.main_arg0)))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
      = Cert.KernelIdeal.Value.G6 m c := by
  funext i
  rw [eq_ix2 i]
  exact (Cert.ReferenceIdeal.Gen.hostY_at _ _ _ _ _ _ (i 0) (i 1)).trans (Cert.KernelIdeal.Gen.result_at m c (i 0) (i 1)).symm

end Cert.Quant

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.RefRun
public import proofs.«01_k».proof.Proof.Agree
public import Idealize.ShloMosaic.Adequacy
public import Idealize.ShloMosaic.Init

@[expose] public section

noncomputable section

namespace Cert.Proof

open Idealize.ShloMosaic Idealize.SL.Sem Cert.Kernel

/-- From the same arguments the idealized kernel and the reference end with the same result. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Value.G6 m c, Cert.KernelIdeal.Value.run m g,
    (θ_run _ _ _).mono (fun r h c => ⟨(h c).1.trans ?_, (h c).2⟩) (Cert.ReferenceIdeal.Gen.run m' g')⟩
  obtain ⟨e0, e1, e2, e3, e4, e5⟩ := hargs c
  rw [e0, e1, e2, e3, e4, e5]
  exact Cert.Quant.agree m c

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
